-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 1024]⟩ ⟨3, ![2, 512, 1024]⟩ (Layout.meshBlock [2, 2] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 512]⟩ ⟨2, ![512, 1024]⟩ (Layout.meshBlock [2, 2] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x1024 : Shape := ⟨3, ![1, 512, 1024]⟩
abbrev S512x512 : Shape := ⟨2, ![512, 512]⟩
abbrev S256x1024 : Shape := ⟨2, ![256, 1024]⟩
abbrev S256x512 : Shape := ⟨2, ![256, 512]⟩
abbrev S4 : Shape := ⟨1, ![4]⟩
abbrev S1 : Shape := ⟨1, ![1]⟩
abbrev S_ : Shape := ⟨0, ![]⟩
abbrev S64x1024 : Shape := ⟨2, ![64, 1024]⟩
abbrev S1x64x1024 : Shape := ⟨3, ![1, 64, 1024]⟩
abbrev S64x512 : Shape := ⟨2, ![64, 512]⟩

abbrev nBuf : Space → Nat
  | .hbm => 2
  | .vmem => 4
  | .smem => 0
  | _ => 0

abbrev bufTy : (tb : Table) → Fin (tcTables nBuf tb) → BufTy
  | .hbm, ⟨0, _⟩ => ⟨S1x512x1024, .f32⟩
  | .hbm, ⟨1, _⟩ => ⟨S512x512, .bf16⟩
  | .local _ .vmem, ⟨0, _⟩ => ⟨S256x1024, .f32⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 4
abbrev τ : Topo := Topo.v7x

variable {F : FTy → Type} [FloatOps F]

abbrev grid0 : Pipeline.Grid := .none

def k0_off1 (d0 : Dev nD) (c0_i32 : BitVec 32) : Fin 3 → Nat :=
  let c0_i32_4 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v8 : BitVec 32 := Scalar.muli v5 c256_i32
  let v9 : BitVec 32 := Scalar.addi v8 c0_i32
  let c0_i32_8 : BitVec 32 := 0#32
  ![0, v9.toNat, 0]
def k0_dev1 (d0 : Dev nD) : Nat :=
  let c0_i32_28 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_27 : BitVec 32 := 2#32
  let v37 : BitVec 32 := Scalar.muli v6 c2_i32_27
  let v38 : BitVec 32 := Scalar.addi c0_i32_28 v37
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_29 : BitVec 32 := 1#32
  let v39 : BitVec 32 := Scalar.muli v5 c1_i32_29
  let v40 : BitVec 32 := Scalar.addi v38 v39
  v40.toNat
def k0_dev2 (d0 : Dev nD) : Nat :=
  let c0_i32_32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_31 : BitVec 32 := 2#32
  let v41 : BitVec 32 := Scalar.muli v2 c2_i32_31
  let v42 : BitVec 32 := Scalar.addi c0_i32_32 v41
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_33 : BitVec 32 := 1#32
  let v43 : BitVec 32 := Scalar.muli v7 c1_i32_33
  let v44 : BitVec 32 := Scalar.addi v42 v43
  v44.toNat
def k0_dev3 (d0 : Dev nD) : Nat :=
  let c0_i32_47 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_46 : BitVec 32 := 2#32
  let v56 : BitVec 32 := Scalar.muli v6 c2_i32_46
  let v57 : BitVec 32 := Scalar.addi c0_i32_47 v56
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_48 : BitVec 32 := 1#32
  let v58 : BitVec 32 := Scalar.muli v5 c1_i32_48
  let v59 : BitVec 32 := Scalar.addi v57 v58
  v59.toNat
def k0_dev4 (d0 : Dev nD) : Nat :=
  let c0_i32_65 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_64 : BitVec 32 := 2#32
  let v77 : BitVec 32 := Scalar.muli v6 c2_i32_64
  let v78 : BitVec 32 := Scalar.addi c0_i32_65 v77
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_66 : BitVec 32 := 1#32
  let v79 : BitVec 32 := Scalar.muli v5 c1_i32_66
  let v80 : BitVec 32 := Scalar.addi v78 v79
  v80.toNat
def k0_dev5 (d0 : Dev nD) : Nat :=
  let c0_i32_83 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_82 : BitVec 32 := 2#32
  let v98 : BitVec 32 := Scalar.muli v6 c2_i32_82
  let v99 : BitVec 32 := Scalar.addi c0_i32_83 v98
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_84 : BitVec 32 := 1#32
  let v100 : BitVec 32 := Scalar.muli v5 c1_i32_84
  let v101 : BitVec 32 := Scalar.addi v99 v100
  v101.toNat
def k0_dev6 (d0 : Dev nD) : Nat :=
  let c0_i32_101 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_100 : BitVec 32 := 2#32
  let v119 : BitVec 32 := Scalar.muli v6 c2_i32_100
  let v120 : BitVec 32 := Scalar.addi c0_i32_101 v119
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_102 : BitVec 32 := 1#32
  let v121 : BitVec 32 := Scalar.muli v5 c1_i32_102
  let v122 : BitVec 32 := Scalar.addi v120 v121
  v122.toNat
def k0_off2 (d0 : Dev nD) (c0_i32_121 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_120 : BitVec 32 := 256#32
  let v143 : BitVec 32 := Scalar.muli v5 c256_i32_120
  let v144 : BitVec 32 := Scalar.addi v143 c0_i32_121
  let c0_i32_127 : BitVec 32 := 0#32
  ![v144.toNat, 0]
def k0_dev7 (d0 : Dev nD) : Nat :=
  let c0_i32_125 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_124 : BitVec 32 := 2#32
  let v145 : BitVec 32 := Scalar.muli v2 c2_i32_124
  let v146 : BitVec 32 := Scalar.addi c0_i32_125 v145
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_126 : BitVec 32 := 1#32
  let v147 : BitVec 32 := Scalar.muli v7 c1_i32_126
  let v148 : BitVec 32 := Scalar.addi v146 v147
  v148.toNat
def k0_dev8 (d0 : Dev nD) : Nat :=
  let c0_i32_154 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_153 : BitVec 32 := 2#32
  let v177 : BitVec 32 := Scalar.muli v2 c2_i32_153
  let v178 : BitVec 32 := Scalar.addi c0_i32_154 v177
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_155 : BitVec 32 := 1#32
  let v179 : BitVec 32 := Scalar.muli v7 c1_i32_155
  let v180 : BitVec 32 := Scalar.addi v178 v179
  v180.toNat
def k0_dev9 (d0 : Dev nD) : Nat :=
  let c0_i32_183 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_182 : BitVec 32 := 2#32
  let v209 : BitVec 32 := Scalar.muli v2 c2_i32_182
  let v210 : BitVec 32 := Scalar.addi c0_i32_183 v209
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_184 : BitVec 32 := 1#32
  let v211 : BitVec 32 := Scalar.muli v7 c1_i32_184
  let v212 : BitVec 32 := Scalar.addi v210 v211
  v212.toNat
def k0_dev10 (d0 : Dev nD) : Nat :=
  let c0_i32_212 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_211 : BitVec 32 := 2#32
  let v241 : BitVec 32 := Scalar.muli v2 c2_i32_211
  let v242 : BitVec 32 := Scalar.addi c0_i32_212 v241
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_213 : BitVec 32 := 1#32
  let v243 : BitVec 32 := Scalar.muli v7 c1_i32_213
  let v244 : BitVec 32 := Scalar.addi v242 v243
  v244.toNat
-- ==== ReferenceIdeal.lean ====
abbrev S2x512x1024 : Shape := ⟨3, ![2, 512, 1024]⟩
abbrev S_ : Shape := ⟨0, ![]⟩
abbrev S512x1024 : Shape := ⟨2, ![512, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2x512x1024, .f32⟩
  | .hbm, ⟨1, _⟩ => ⟨S_, .f32⟩
  | .hbm, ⟨2, _⟩ => ⟨S512x1024, .f32⟩
  | .hbm, ⟨3, _⟩ => ⟨S512x1024, .bf16⟩
  | _, _ => ⟨S2x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.KernelIdealViews.lean ====
/-
# The places and contents of the two-stage reduction

Four devices on a 2 × 2 mesh: device `c` sits at `x = c / 2`, `y = c % 2`. It fetches the half `y` of its block's rows in
four chunks, hands the columns its `x` peer keeps to that peer, adds what the peer hands it to the columns it keeps
itself, and hands the sums to its `y` peer. This module names the views each chunk goes through, the contents each
buffer ends at, and shows that every copy and store produces exactly those.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Rounds
public import Idealize.ShloMosaic.Lib.Pipeline.Value

@[expose] public section

noncomputable section

namespace Cert.KernelIdealProof

open Cert.KernelIdeal Cert.KernelIdeal.Gen

open Idealize.ShloMosaic
open Idealize.ShloMosaic.TcCoe
open Idealize.ShloMosaic.Pipeline

variable {F : FTy → Type} [FloatOps F]

variable (m : (ℓ : Loc nD τ sig) → Buf (Elt F) ℓ)

/-! ## The two neighbours -/

/-- The device in the other row of the mesh, same column. -/
def xp (c : Dev nD) : Dev nD := ⟨k0_dev1 c, k0_dev1_lt c⟩
/-- The device in the same row, other column. -/
def yp (c : Dev nD) : Dev nD := ⟨k0_dev2 c, k0_dev2_lt c⟩

theorem xp_val (c : Dev nD) : (xp c).val = c.val % 2 + 2 - 2 * (c.val / 2) := k0_dev1_eq c
theorem yp_val (c : Dev nD) : (yp c).val = 2 * (c.val / 2) + 1 - c.val % 2 := k0_dev2_eq c

theorem xp_div (c : Dev nD) : (xp c).val / 2 = 1 - c.val / 2 := by
  rw [xp_val]; have := c.isLt; simp only [nD] at this; omega
theorem xp_mod (c : Dev nD) : (xp c).val % 2 = c.val % 2 := by
  rw [xp_val]; have := c.isLt; simp only [nD] at this; omega
theorem yp_div (c : Dev nD) : (yp c).val / 2 = c.val / 2 := by
  rw [yp_val]; have := c.isLt; simp only [nD] at this; omega
theorem yp_mod (c : Dev nD) : (yp c).val % 2 = 1 - c.val % 2 := by
  rw [yp_val]; have := c.isLt; simp only [nD] at this; omega
theorem xp_xp (c : Dev nD) : xp (xp c) = c := by
  apply Fin.ext; rw [xp_val, xp_div, xp_mod]; have := c.isLt; simp only [nD] at this; omega
theorem yp_yp (c : Dev nD) : yp (yp c) = c := by
  apply Fin.ext; rw [yp_val, yp_div, yp_mod]; have := c.isLt; simp only [nD] at this; omega

/-! ## The views -/

theorem chunk_inb {n : Nat} (k : Fin 4) : ∀ a, (![64 * k.val, 0] : Fin 2 → Nat) a + (![64, n] : Fin 2 → Nat) a ≤ (![256, n] : Fin 2 → Nat) a := by
  have := k.isLt
  intro a; fin_cases a
  · show 64 * k.val + 64 ≤ 256; omega
  · show 0 + n ≤ n; omega

/-- Chunk `k` of the argument rows device `c` fetches. -/
abbrev aC (c : Dev nD) (k : Fin 4) : Memref sig .tc .hbm S64x1024 .f32 :=
  ((Memref.whole main_arg0).slice (Rect.unit (s := S1x512x1024) (k0_off1 c (BitVec.ofNat 32 (64 * k.val))) S1x64x1024.size (k0_off1_inb c k)) (fun _ => rfl)).squeeze
    S64x1024 squeezes_S1x64x1024_S64x1024
/-- Chunk `k` of the fetched rows, -/
abbrev vC (k : Fin 4) : Memref sig .tc .vmem S64x1024 .f32 :=
  (Memref.whole cc0_scratch0).slice (Rect.unit (s := S256x1024) ![64 * k.val, 0] S64x1024.size (chunk_inb k)) (fun _ => rfl)
/-- of the rows handed to the `x` peer, -/
abbrev sC (k : Fin 4) : Memref sig .tc .vmem S64x512 .bf16 :=
  (Memref.whole cc0_scratch1).slice (Rect.unit (s := S256x512) ![64 * k.val, 0] S64x512.size (chunk_inb k)) (fun _ => rfl)
/-- of the rows the `x` peer hands over, -/
abbrev rC (k : Fin 4) : Memref sig .tc .vmem S64x512 .bf16 :=
  (Memref.whole cc0_scratch2).slice (Rect.unit (s := S256x512) ![64 * k.val, 0] S64x512.size (chunk_inb k)) (fun _ => rfl)
/-- of the sums, -/
abbrev pC (k : Fin 4) : Memref sig .tc .vmem S64x512 .bf16 :=
  (Memref.whole cc0_scratch3).slice (Rect.unit (s := S256x512) ![64 * k.val, 0] S64x512.size (chunk_inb k)) (fun _ => rfl)
/-- and of the half of the result rows that is device `h`'s to compute. -/
abbrev oC (h : Dev nD) (k : Fin 4) : Memref sig .tc .hbm S64x512 .bf16 :=
  (Memref.whole main_v1).slice (Rect.unit (s := S512x512) (k0_off2 h (BitVec.ofNat 32 (64 * k.val))) S64x512.size (k0_off2_inb h k)) (fun _ => rfl)

/-! ## Which elements they name -/

theorem mem_rows {n : Nat} (k : Fin 4) (i : (⟨2, ![256, n]⟩ : Shape).Idx) :
    i ∈ (Rect.unit (s := ⟨2, ![256, n]⟩) ![64 * k.val, 0] (![64, n] : Fin 2 → Nat) (chunk_inb k)).set ↔ (i 0 : Nat) / 64 = k.val := by
  rw [Rect.mem_set_unit, Fin.forall_fin_two]
  have h1 : (i 1 : Nat) < n := (i 1).isLt
  show (64 * k.val ≤ (i 0 : Nat) ∧ (i 0 : Nat) < 64 * k.val + 64) ∧ (0 ≤ (i 1 : Nat) ∧ (i 1 : Nat) < 0 + n) ↔ _
  omega

theorem mem_vC (k : Fin 4) (i : S256x1024.Idx) : i ∈ (vC k).view.set ↔ (i 0 : Nat) / 64 = k.val :=
  (Finset.ext_iff.mp (View.set_slice_whole cc0_scratch0 _) i).trans (mem_rows k i)
theorem mem_sC (k : Fin 4) (i : S256x512.Idx) : i ∈ (sC k).view.set ↔ (i 0 : Nat) / 64 = k.val :=
  (Finset.ext_iff.mp (View.set_slice_whole cc0_scratch1 _) i).trans (mem_rows k i)
theorem mem_rC (k : Fin 4) (i : S256x512.Idx) : i ∈ (rC k).view.set ↔ (i 0 : Nat) / 64 = k.val :=
  (Finset.ext_iff.mp (View.set_slice_whole cc0_scratch2 _) i).trans (mem_rows k i)
theorem mem_pC (k : Fin 4) (i : S256x512.Idx) : i ∈ (pC k).view.set ↔ (i 0 : Nat) / 64 = k.val :=
  (Finset.ext_iff.mp (View.set_slice_whole cc0_scratch3 _) i).trans (mem_rows k i)
theorem mem_oC (h : Dev nD) (k : Fin 4) (i : S512x512.Idx) : i ∈ (oC h k).view.set ↔ (i 0 : Nat) / 64 = 4 * (h.val % 2) + k.val := by
  refine (Finset.ext_iff.mp (View.set_slice_whole main_v1 _) i).trans ?_
  rw [Rect.mem_set_unit]
  have h1 : (i 1 : Nat) < 512 := (i 1).isLt
  rw [show (k0_off2 h (BitVec.ofNat 32 (64 * k.val))) = ![256 * (h.val % 2) + 64 * k.val, 0] from k0_off2_eq h k]
  refine Iff.trans (Fin.forall_fin_two (p := fun a : Fin 2 => (![256 * (h.val % 2) + 64 * k.val, 0] : Fin 2 → Nat) a ≤ (i a).val ∧
    (i a).val < (![256 * (h.val % 2) + 64 * k.val, 0] : Fin 2 → Nat) a + S64x512.size a)) ?_
  show (256 * (h.val % 2) + 64 * k.val ≤ (i 0 : Nat) ∧ (i 0 : Nat) < 256 * (h.val % 2) + 64 * k.val + 64) ∧ (0 ≤ (i 1 : Nat) ∧ (i 1 : Nat) < 0 + 512) ↔ _
  omega
theorem mem_aC (h : Dev nD) (k : Fin 4) (i : S1x512x1024.Idx) : i ∈ (aC h k).view.set ↔ (i 1 : Nat) / 64 = 4 * (h.val % 2) + k.val := by
  refine (Finset.ext_iff.mp ((View.set_reshape _ _).trans (View.set_slice_whole main_arg0 _)) i).trans ?_
  rw [Rect.mem_set_unit]
  have h0 : (i 0 : Nat) < 1 := (i 0).isLt
  have h2 : (i 2 : Nat) < 1024 := (i 2).isLt
  rw [show (k0_off1 h (BitVec.ofNat 32 (64 * k.val))) = ![0, 256 * (h.val % 2) + 64 * k.val, 0] from k0_off1_eq h k]
  refine Iff.trans (Fin.forall_fin_succ (P := fun a : Fin 3 => (![0, 256 * (h.val % 2) + 64 * k.val, 0] : Fin 3 → Nat) a ≤ (i a).val ∧
    (i a).val < (![0, 256 * (h.val % 2) + 64 * k.val, 0] : Fin 3 → Nat) a + S1x64x1024.size a)) ?_
  rw [Fin.forall_fin_two]
  show (0 ≤ (i 0 : Nat) ∧ (i 0 : Nat) < 0 + 1) ∧
    (256 * (h.val % 2) + 64 * k.val ≤ (i 1 : Nat) ∧ (i 1 : Nat) < 256 * (h.val % 2) + 64 * k.val + 64) ∧ (0 ≤ (i 2 : Nat) ∧ (i 2 : Nat) < 0 + 1024) ↔ _
  omega

/-! ## The contents the buffers end at -/

/-- Device `c`'s argument block, -/
def xF (c : Dev nD) : S1x512x1024.Idx → Elt F .f32 := m ((c : Thread nD τ).loc main_arg0)
/-- its half `y` of the rows, as fetched, -/
def vF (c : Dev nD) : S256x1024.Idx → Elt F .f32 := fun i =>
  xF m c fun a => match a with
    | 0 => (0 : Fin 1)
    | 1 => ((⟨256 * (c.val % 2) + (i 0).val, by have : (i 0).val < 256 := (i 0).isLt; omega⟩ : Fin 512))
    | 2 => ((⟨(i 1).val, (i 1).isLt⟩ : Fin 1024))
/-- half `b` of the columns of those rows, -/
def hF (b : Nat) (hb : b < 2) (c : Dev nD) : FVec F S256x512 .f32 := fun i =>
  vF m c fun a => match a with
    | 0 => ((⟨(i 0).val, (i 0).isLt⟩ : Fin 256))
    | 1 => ((⟨512 * b + (i 1).val, by have : (i 1).val < 512 := (i 1).isLt; omega⟩ : Fin 1024))
theorem x_lt (c : Dev nD) : c.val / 2 < 2 := by have := c.isLt; simp only [nD] at this; omega
theorem x_lt' (c : Dev nD) : 1 - c.val / 2 < 2 := by omega
/-- what it hands to its `x` peer, -/
def sF (c : Dev nD) : FVec F S256x512 .bf16 := truncf .bf16 (hF m (1 - c.val / 2) (x_lt' c) c) bitsLt_bf16_f32
/-- the sums it computes, -/
def pF (c : Dev nD) : FVec F S256x512 .bf16 :=
  truncf .bf16 (addf (hF m (c.val / 2) (x_lt c) c) (extf .f32 (sF m (xp c)) bitsLt_bf16_f32)) bitsLt_bf16_f32
/-- and its result: each half of the rows as the device of that half computes it. -/
def oF (c : Dev nD) : S512x512.Idx → Elt F .bf16 := fun i =>
  pF m (if (i 0).val / 256 = c.val % 2 then c else yp c) fun a => match a with
    | 0 => ((⟨(i 0).val % 256, Nat.mod_lt _ (by decide)⟩ : Fin 256))
    | 1 => ((⟨(i 1).val, (i 1).isLt⟩ : Fin 512))

/-! ## Every copy and store produces them -/

/-- Dropping the leading unit axis of a chunk of the argument. -/
theorem unsqueeze_idx (x : S64x1024.Idx) :
    Shape.reshapeEquiv squeezes_S1x64x1024_S64x1024.numel_eq x = (Fin.cons (⟨0, Nat.one_pos⟩ : Fin 1) x : S1x64x1024.Idx) :=
  shapeCast_dropUnit_apply (n := 2) ![64, 1024] (id : S1x64x1024.Idx → S1x64x1024.Idx) squeezes_S1x64x1024_S64x1024.numel_eq x

theorem vF_read (c : Dev nD) (k : Fin 4) (x : S64x1024.Idx) :
    xF m c ((aC c k).view.emb x) = vF m c ((vC k).view.emb x) := by
  unfold vF
  refine congrArg (xF m c) (funext fun a => Fin.ext ?_)
  show ((Rect.unit (s := S1x512x1024) (k0_off1 c (BitVec.ofNat 32 (64 * k.val))) S1x64x1024.size (k0_off1_inb c k)).emb
    (Shape.reshapeEquiv squeezes_S1x64x1024_S64x1024.numel_eq x) a : Nat) = _
  rw [Rect.emb_apply, unsqueeze_idx]
  refine (congrArg (· + _) (congrFun (k0_off1_eq c k) a)).trans ?_
  fin_cases a
  · rfl
  · show 256 * (c.val % 2) + 64 * k.val + 1 * (x 0).val = 256 * (c.val % 2) + (64 * k.val + 1 * (x 0).val)
    omega
  · rfl

theorem fetch_eq (c : Dev nD) (k : Fin 4) (fd) :
    ∀ i ∈ (vC k).view.set, (vC k).view.write (Elt F) fd ((aC c k).view.read (Elt F) (xF m c)) Finset.univ i = vF m c i := by
  intro i hi
  obtain ⟨x, -, rfl⟩ := Finset.mem_map.mp hi
  rw [View.write_emb_of_mem _ _ (Finset.mem_univ x)]
  exact vF_read m c k x

/-- Columns half `b` of chunk `k`, loaded from the fetched rows. -/
theorem hF_read (b : Nat) (hb : b < 2) (c : Dev nD) (k : Fin 4) (inb) (x : S64x512.Idx) :
    (Memref.whole cc0_scratch0).view.readAt (Elt F) (Rect.unit (s := S256x1024) ![64 * k.val, 512 * b] S64x512.size inb).toLoadRect (vF m c) x
      = hF m b hb c ((sC k).view.emb x) := by
  unfold hF
  refine congrArg (vF m c) (funext fun a => Fin.ext ?_)
  fin_cases a
  · rfl
  · show 512 * b + 1 * (x 1).val = 512 * b + (0 + 1 * (x 1).val)
    omega

/-- The store of what goes to the `x` peer. -/
theorem stage_eq (c : Dev nD) (k : Fin 4) (w : Vec F S64x512 .bf16) (fd)
    (hw : ∀ x, w x = sF m c ((sC k).view.emb x)) :
    ∀ i ∈ (sC k).view.set, (sC k).view.write (Elt F) fd w Finset.univ i = sF m c i := by
  intro i hi
  obtain ⟨x, -, rfl⟩ := Finset.mem_map.mp hi
  rw [View.write_emb_of_mem _ _ (Finset.mem_univ x)]
  exact hw x

/-- A landed chunk of it, on either side. -/
theorem hand_eq (c : Dev nD) (k : Fin 4) (fd) :
    ∀ i ∈ (rC k).view.set, (rC k).view.write (Elt F) fd ((sC k).view.read (Elt F) (sF m c)) Finset.univ i = sF m c i := by
  intro i hi
  obtain ⟨x, -, rfl⟩ := Finset.mem_map.mp hi
  rw [View.write_emb_of_mem _ _ (Finset.mem_univ x)]
  rfl

/-- The store of the sums. -/
theorem sum_eq (c : Dev nD) (k : Fin 4) (w : Vec F S64x512 .bf16) (fd)
    (hw : ∀ x, w x = pF m c ((pC k).view.emb x)) :
    ∀ i ∈ (pC k).view.set, (pC k).view.write (Elt F) fd w Finset.univ i = pF m c i := by
  intro i hi
  obtain ⟨x, -, rfl⟩ := Finset.mem_map.mp hi
  rw [View.write_emb_of_mem _ _ (Finset.mem_univ x)]
  exact hw x

/-- A landed chunk of the sums, on the device that computed it and on its `y` peer. -/
theorem out_eq (c d : Dev nD) (hd : d = c ∨ d = yp c) (k : Fin 4) (fd) :
    ∀ i ∈ (oC c k).view.set, (oC c k).view.write (Elt F) fd ((pC k).view.read (Elt F) (pF m c)) Finset.univ i = oF m d i := by
  intro i hi
  have hr := (mem_oC c k i).mp hi
  obtain ⟨x, -, rfl⟩ := Finset.mem_map.mp hi
  rw [View.write_emb_of_mem _ _ (Finset.mem_univ x)]
  have hk := k.isLt
  have hx : (x 0).val < 64 := (x 0).isLt
  have h0 : ((oC c k).view.emb x 0 : Nat) = 256 * (c.val % 2) + 64 * k.val + (x 0).val :=
    (congrArg (· + 1 * (x 0).val) (congrFun (k0_off2_eq c k) (0 : Fin 2))).trans (by show 256 * (c.val % 2) + 64 * k.val + 1 * (x 0).val = _; omega)
  have h1 : ((oC c k).view.emb x 1 : Nat) = (x 1).val :=
    (congrArg (· + 1 * (x 1).val) (congrFun (k0_off2_eq c k) (1 : Fin 2))).trans (by show 0 + 1 * _ = _; omega)
  have hc : (if ((oC c k).view.emb x 0).val / 256 = d.val % 2 then d else yp d) = c := by
    rw [h0]
    have hc4 := c.isLt
    simp only [nD] at hc4
    rcases hd with rfl | rfl
    · rw [if_pos (by omega)]
    · rw [if_neg (by rw [yp_mod]; omega), yp_yp]
  show pF m c ((pC k).view.emb x) = oF m d ((oC c k).view.emb x)
  unfold oF
  rw [hc]
  refine congrArg (pF m c) (funext fun a => Fin.ext ?_)
  fin_cases a
  · show 64 * k.val + 1 * (x 0).val = ((oC c k).view.emb x 0).val % 256
    rw [h0]; omega
  · show 0 + 1 * (x 1).val = ((oC c k).view.emb x 1).val
    rw [h1]; omega

theorem stage_val (b : Nat) (hb : b < 2) (c : Dev nD) (hbc : b = 1 - c.val / 2) (k : Fin 4) (inb) (x : S64x512.Idx) :
    k0_pay1 ((Memref.whole cc0_scratch0).view.readAt (Elt F) (Rect.unit (s := S256x1024) ![64 * k.val, 512 * b] S64x512.size inb).toLoadRect (vF m c)) x
      = sF m c ((sC k).view.emb x) := by
  subst hbc
  unfold k0_pay1
  rw [shapeCast_self]
  rw [funext (hF_read m _ hb c k inb)]; rfl

theorem sum_val (b : Nat) (hb : b < 2) (c : Dev nD) (hbc : b = c.val / 2) (k : Fin 4) (inb) (inb') (x : S64x512.Idx) :
    k0_pay9 ((Memref.whole cc0_scratch0).view.readAt (Elt F) (Rect.unit (s := S256x1024) ![64 * k.val, 512 * b] S64x512.size inb).toLoadRect (vF m c))
        ((Memref.whole cc0_scratch2).view.readAt (Elt F) (Rect.unit (s := S256x512) ![64 * k.val, 0] S64x512.size inb').toLoadRect (sF m (xp c))) x
      = pF m c ((pC k).view.emb x) := by
  subst hbc
  unfold k0_pay9
  rw [shapeCast_self, funext (hF_read m _ hb c k inb)]; rfl

end Cert.KernelIdealProof
-- ==== Proof.KernelIdealSched.lean ====
/-
# The protocol of the two-stage reduction

Every semaphore is a cell of one round. A device's barrier cell is paid once by each neighbour, which hands over the
rows of its own buffers that this device is about to fill: the `x` peer its landing buffer, the `y` peer the half of
its result rows this device computes. Each of the twenty-four transfer cells is paid once by the transfer that credits
it, with the chunk that transfer moves.
-/
module

public import proofs.«01_k».proof.Proof.KernelIdealViews

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## The cells -/

theorem sem_inb (k : Fin 4) : ∀ a, (![k.val] : Fin 1 → Nat) a + S1.size a ≤ S4.size a := by
  have := k.isLt
  intro a; fin_cases a; show k.val + 1 ≤ 4; omega

/-- The six arrays of four transfer semaphores: fetch, own copy, hand-over sent, hand-over received, sums sent, sums received. -/
abbrev arr : Fin 6 → DmaSems sig S4
  | 0 => cc0_scratch4 | 1 => cc0_scratch5 | 2 => cc0_scratch6 | 3 => cc0_scratch7 | 4 => cc0_scratch8 | 5 => cc0_scratch9
/-- Semaphore `k` of array `j`. -/
def dsem (j : Fin 6) (k : Fin 4) : DmaSem sig :=
  (((arr j).slice (Rect.unit (s := S4) ![k.val] S1.size (sem_inb k))).squeeze S_ squeezes_S1_S_).sem
abbrev barS : Sem sig := (SemArray.scalar (sig.barrier 0 rfl) : Sems sig S_).sem

theorem dsem_div (j : Fin 6) (k : Fin 4) : (dsem j k).val / 4 = j.val := by revert j k; decide
theorem dsem_mod (j : Fin 6) (k : Fin 4) : (⟨(dsem j k).val % 4, Nat.mod_lt _ (by decide)⟩ : Fin 4) = k := by revert j k; decide

abbrev barCell (c : Dev nD) : GSem nD τ sig := ((c : Thread nD τ), .reg barS)
abbrev dcell (j : Fin 6) (c : Dev nD) (k : Fin 4) : GSem nD τ sig := ((c : Thread nD τ), .dma (dsem j k))

/-- A device's cells: its barrier, and its transfer cells. -/
abbrev CI : Type := Unit ⊕ (Fin 6 × Fin 4)
abbrev osem : Fin 6 × Fin 4 → SemLoc sig := fun jk => .dma (dsem jk.1 jk.2)
abbrev csem : CI → SemLoc sig
  | .inl _ => .reg barS
  | .inr jk => osem jk
abbrev kcell (ci : Dev nD × CI) : GSem nD τ sig := ((ci.1 : Thread nD τ), csem ci.2)

def N1 : ℕ := (vC 0).view.dmaCredit
def N2 : ℕ := (sC 0).view.dmaCredit
theorem N1_pos : 0 < N1 := View.dmaCredit_pos _ (by decide)
theorem N2_pos : 0 < N2 := View.dmaCredit_pos _ (by decide)
/-- What a transfer onto a cell of array `j` credits it. -/
def credN (j : ℕ) : ℕ := if j = 0 then N1 else N2
theorem credN_eq {j : ℕ} (hj : j ≠ 0) : credN j = N2 := if_neg hj
theorem credN_pos (j : ℕ) : 0 < credN j := by unfold credN; split; exacts [N1_pos, N2_pos]

/-! ## The chunks as assertions -/

section Chunks
variable (c : Dev nD) (k : Fin 4)

def aP (q : PosShare TreeShare) : sProp 𝕄 := (aC c k).view.loc (c : Thread nD τ) ↦[(aC c k).view.set]{q} xF m c
def vP (f : S256x1024.Idx → Elt F .f32) : sProp 𝕄 := (vC k).view.loc (c : Thread nD τ) ↦[(vC k).view.set]{fullShare} f
def sP (f : S256x512.Idx → Elt F .bf16) : sProp 𝕄 := (sC k).view.loc (c : Thread nD τ) ↦[(sC k).view.set]{fullShare} f
def rP (f : S256x512.Idx → Elt F .bf16) : sProp 𝕄 := (rC k).view.loc (c : Thread nD τ) ↦[(rC k).view.set]{fullShare} f
def pP (q : PosShare TreeShare) (f : S256x512.Idx → Elt F .bf16) : sProp 𝕄 := (pC k).view.loc (c : Thread nD τ) ↦[(pC k).view.set]{q} f
/-- The rows of chunk `k` of half `h`, of device `c`'s result. -/
def oP (h : Dev nD) (f : S512x512.Idx → Elt F .bf16) : sProp 𝕄 := (oC h k).view.loc (c : Thread nD τ) ↦[(oC h k).view.set]{fullShare} f

omit [FloatOps F] in
instance (q) : BI.Storable (upEmb : UEmb _ 𝕄) (aP (F := F) m c k q) := by unfold aP; infer_instance
omit [FloatOps F] in
instance (f) : BI.Storable (upEmb : UEmb _ 𝕄) (vP (F := F) c k f) := by unfold vP; infer_instance
omit [FloatOps F] in
instance (f) : BI.Storable (upEmb : UEmb _ 𝕄) (sP (F := F) c k f) := by unfold sP; infer_instance
omit [FloatOps F] in
instance (f) : BI.Storable (upEmb : UEmb _ 𝕄) (rP (F := F) c k f) := by unfold rP; infer_instance
omit [FloatOps F] in
instance (q f) : BI.Storable (upEmb : UEmb _ 𝕄) (pP (F := F) c k q f) := by unfold pP; infer_instance
omit [FloatOps F] in
instance (h f) : BI.Storable (upEmb : UEmb _ 𝕄) (oP (F := F) c k h f) := by unfold oP; infer_instance

end Chunks

/-! ## The schedule -/

/-- What the `x` peer's signal hands device `c`: the peer's landing buffer, chunk by chunk; -/
def barX (c : Dev nD) : sProp 𝕄 := iprop(∃ f, bigSep Finset.univ fun k => rP (xp c) k f)
/-- and what the `y` peer's hands it: the peer's result rows of the half that is `c`'s to compute. -/
def barY (c : Dev nD) : sProp 𝕄 := iprop(∃ f, bigSep Finset.univ fun k => oP (yp c) k c f)

/-- What a transfer hands the cell of array `j` it credits. -/
def dmaPay (c : Dev nD) (j : ℕ) (k : Fin 4) : sProp 𝕄 :=
  match j with
  | 0 => vP c k (vF m c)
  | 1 => iprop(oP c k c (oF m c) ∗ pP c k fullShare.right (pF m c))
  | 2 => sP c k (sF m c)
  | 3 => rP c k (sF m (xp c))
  | 4 => pP c k fullShare.left (pF m c)
  | _ => oP c k (yp c) (oF m c)

instance barX_storable (c : Dev nD) : BI.Storable (upEmb : UEmb _ 𝕄) (barX (F := F) c) := by unfold barX; infer_instance
instance barY_storable (c : Dev nD) : BI.Storable (upEmb : UEmb _ 𝕄) (barY (F := F) c) := by unfold barY; infer_instance
instance dmaPay_storable (c : Dev nD) (j : ℕ) (k : Fin 4) : BI.Storable (upEmb : UEmb _ 𝕄) (dmaPay (F := F) m c j k) := by
  unfold dmaPay; split <;> infer_instance

def Rd : Rounds.Schedule (GSem nD τ sig) Bool 𝕄 where
  duties g r := if r = 0 ∧ g.1.2 = .tc then (match g.2 with | .reg _ => Finset.univ | .dma _ => {false}) else ∅
  unitless _ := False
  amount g _ _ := match g.2 with | .reg _ => 1 | .dma i => credN (i.val / 4)
  payload g _ d := match g.2 with
    | .reg _ => if d then barY g.1.1 else barX g.1.1
    | .dma i => dmaPay m g.1.1 (i.val / 4) ⟨i.val % 4, Nat.mod_lt _ (by decide)⟩
  amount_pos g _ _ _ := by
    rcases g with ⟨t, s | s⟩
    · exact Nat.one_pos
    · exact credN_pos _

instance Rd_payload_storable (g : GSem nD τ sig) (r : ℕ) (d : Bool) : BI.Storable (upEmb : UEmb _ 𝕄) ((Rd (F := F) m).payload g r d) := by
  rcases g with ⟨t, s | s⟩
  · show BI.Storable upEmb (if d then barY t.1 else barX t.1)
    split <;> infer_instance
  · show BI.Storable upEmb (dmaPay m t.1 (s.val / 4) _)
    infer_instance

section Sched
variable (c : Dev nD) (j : Fin 6) (k : Fin 4)

theorem duties_bar : (Rd (F := F) m).duties (barCell c) 0 = Finset.univ := by
  dsimp only [Rd]; rw [if_pos ⟨rfl, rfl⟩]
theorem duties_dma : (Rd (F := F) m).duties (dcell j c k) 0 = {false} := by
  dsimp only [Rd]; rw [if_pos ⟨rfl, rfl⟩]
theorem duties_later (g : GSem nD τ sig) : ∀ r, 1 ≤ r → (Rd (F := F) m).duties g r = ∅ :=
  fun r hr => if_neg fun h => by omega
theorem mem_bar (d : Bool) : d ∈ (Rd (F := F) m).duties (barCell c) 0 := by rw [duties_bar]; exact Finset.mem_univ _
theorem mem_dma : false ∈ (Rd (F := F) m).duties (dcell j c k) 0 := by rw [duties_dma]; exact Finset.mem_singleton_self _

theorem amount_bar (d : Bool) : (Rd (F := F) m).amount (barCell c) 0 d = 1 := rfl
theorem amount_dma (d : Bool) : (Rd (F := F) m).amount (dcell j c k) 0 d = credN j.val := congrArg credN (dsem_div j k)
theorem expect_bar : (Rd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_dma : (Rd (F := F) m).expect (dcell j c k) 0 = credN j.val := by
  unfold Schedule.expect Schedule.amountOf; rw [duties_dma, Finset.sum_singleton, amount_dma]

theorem payload_bar_true : (Rd (F := F) m).payload (barCell c) 0 true = barY c := rfl
theorem payload_bar_false : (Rd (F := F) m).payload (barCell c) 0 false = barX c := rfl
theorem payload_dma (d : Bool) : (Rd (F := F) m).payload (dcell j c k) 0 d = dmaPay m c j.val k := by
  show dmaPay m c ((dsem j k).val / 4) ⟨(dsem j k).val % 4, _⟩ = _
  rw [dsem_mod, dsem_div]

theorem rest_bar : bigSep ((Rd (F := F) m).duties (barCell c) 0 \ ∅) (fun d => (Rd (F := F) m).payload (barCell c) 0 d) = iprop(barX c ∗ barY c) := by
  rw [Finset.sdiff_empty, duties_bar, bigSep_univ_eq_bigSepL [false, true] (by decide) (by decide), bigSepL_cons_cons, bigSepL_singleton,
    payload_bar_false, payload_bar_true]
  rfl
theorem rest_dma : bigSep ((Rd (F := F) m).duties (dcell j c k) 0 \ ∅) (fun d => (Rd (F := F) m).payload (dcell j c k) 0 d) = dmaPay m c j.val k := by
  rw [Finset.sdiff_empty, duties_dma, bigSep_singleton, payload_dma]

end Sched

/-! ## What is owed, and the levels -/

/-- The last `n` chunks of array `j` on device `e`, still to be paid. -/
def due (j : Fin 6) (e : Dev nD) : ℕ → CellTallies nD τ sig Unit
  | 0 => 0
  | n + 1 => due j e n + tallyAt (dcell j e ⟨3 - n, by omega⟩) () N2

theorem due_succ (j : Fin 6) (e : Dev nD) (i : ℕ) (k : Fin 4) (hi : k.val = 3 - i) :
    due j e (i + 1) = due j e i + tallyAt (dcell j e k) () N2 := by
  show due j e i + tallyAt (dcell j e ⟨3 - i, Nat.lt_of_le_of_lt (Nat.sub_le 3 i) (by decide)⟩) () N2 = _
  rw [← show k = ⟨3 - i, Nat.lt_of_le_of_lt (Nat.sub_le 3 i) (by decide)⟩ from Fin.ext hi]

/-- After the barrier: the hand-over not yet sent to the `x` peer, and the sums to the `y` peer. -/
def Oc (c : Dev nD) (n : ℕ) : CellTallies nD τ sig Unit := due 5 (yp c) 4 + due 3 (xp c) n
theorem Oc_succ (c : Dev nD) (i : ℕ) (k : Fin 4) (hi : k.val = 3 - i) : Oc c (i + 1) = Oc c i + tallyAt (dcell 3 (xp c) k) () N2 := by
  unfold Oc; rw [due_succ 3 (xp c) i k hi, add_assoc]
def O₁ (c : Dev nD) : CellTallies nD τ sig Unit := Oc c 4 + tallyAt (barCell (yp c)) () 1
def O₀ (c : Dev nD) : CellTallies nD τ sig Unit := O₁ c + tallyAt (barCell (xp c)) () 1

def L (g : GSem nD τ sig) : Finset Unit := if g.1.2 = .tc then {()} else ∅
/-- Fetches and sends at 0, barriers at 1, hand-overs received at 2, sums received at 3. -/
def lvs : SemLoc sig → ℕ
  | .reg _ => 1
  | .dma i => if i.val / 4 = 3 then 2 else if i.val / 4 = 5 then 3 else 0
def lv (g : GSem nD τ sig) (_ : Unit) : ℕ := lvs g.2

theorem L_of_ne (g : GSem nD τ sig) (h : g.1.2 ≠ .tc) : L g = ∅ := if_neg h

/-- Everything owed is to a cell above level `n`. -/
def Above (n : ℕ) (O : CellTallies nD τ sig Unit) : Prop := ∀ g u, 0 < O g u → g.1.2 = .tc ∧ n < lv g u

omit [FloatOps F] in
theorem above_zero (n : ℕ) : Above n 0 := fun g u h => absurd h (Nat.lt_irrefl 0)
theorem above_add {n : ℕ} {A B : CellTallies nD τ sig Unit} (hA : Above n A) (hB : Above n B) : Above n (A + B) := fun g u h => by
  rw [Pi.add_apply, Finsupp.add_apply] at h
  rcases Nat.eq_zero_or_pos (A g u) with h0 | h0
  · exact hB g u (by omega)
  · exact hA g u h0
theorem above_tally {n : ℕ} {g : GSem nD τ sig} (N : ℕ) (hg : g.1.2 = .tc) (hn : n < lv g ()) : Above n (tallyAt g () N) := fun g' u h => by
  rw [tallyAt_apply] at h
  by_cases h' : g' = g ∧ u = ()
  · rw [h'.1]; exact ⟨hg, hn⟩
  · rw [if_neg h'] at h; exact absurd h (Nat.lt_irrefl 0)
theorem lv_dma (j : Fin 6) (c : Dev nD) (k : Fin 4) : lv (dcell j c k) () = if j.val = 3 then 2 else if j.val = 5 then 3 else 0 := by
  show (if (dsem j k).val / 4 = 3 then 2 else if (dsem j k).val / 4 = 5 then 3 else 0) = _
  rw [dsem_div]
theorem above_due {n : ℕ} (j : Fin 6) (e : Dev nD) (h : n < if j.val = 3 then 2 else if j.val = 5 then 3 else 0) : ∀ i, Above n (due j e i)
  | 0 => above_zero n
  | i + 1 => above_add (above_due j e h i) (above_tally N2 rfl (by rw [lv_dma]; exact h))
theorem above_Oc {n : ℕ} (c : Dev nD) (i : ℕ) (h : n < 2) : Above n (Oc c i) :=
  above_add (above_due 5 _ (by show n < 3; omega) 4) (above_due 3 _ (by show n < 2; omega) i)
theorem above_O₀ (c : Dev nD) : Above 0 (O₀ c) :=
  above_add (above_add (above_Oc c 4 (by omega)) (above_tally 1 rfl (Nat.one_pos))) (above_tally 1 rfl Nat.one_pos)

/-- A wait below everything owed is allowed. -/
theorem mayWait_of_above (c : Dev nD) (sm : SemLoc sig) {O : CellTallies nD τ sig Unit} (h : Above (lvs sm) O) :
    (levAts L lv : sProp 𝕄) ⊢ MayWait (c : Thread nD τ) sm () O :=
  MayOwe.of_cut (L := L) (lev := lv) (lvs sm) (fun p hp => by rw [Finset.mem_singleton.mp hp]; exact Finset.mem_singleton_self _)
    (fun g u hg => by unfold L; rw [if_pos (h g u hg).1]; exact Finset.mem_singleton_self _)
    (fun p hp => by rw [Finset.mem_singleton.mp hp]; exact Nat.le_refl _)
    (fun g u hg => (h g u hg).2)

end Cert.KernelIdealProof
-- ==== Proof.KernelIdealSteps.lean ====
/-
# One chunk through the two stages

What device `c` holds of chunk `k` at each point of the program, and for every operation of the program the rule that
takes the chunk from one point to the next. The rules are stated once, for any chunk of any device.
-/
module

public import proofs.«01_k».proof.Proof.KernelIdealSched

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Core `c` running `p`. -/
abbrev Wp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What is held -/

/-- What `c` owes, whatever it has waited for. -/
def own (c : Dev nD) (O : CellTallies nD τ sig Unit) : sProp 𝕄 := iprop(∃ W, owes (c : Thread nD τ) O W)

/-- Every cell's invariant, at the names the launch chose, and that its round is open. -/
def recs (K : Dev nD × CI → ℕ) : sProp 𝕄 :=
  bigSep Finset.univ fun p => iprop(cellInv ER (Rd m) (K p) (kcell p) ∗ reached ER (kcell p) 0)

instance recs_persistent (K : Dev nD × CI → ℕ) : BI.Persistent (recs (F := F) m K) := by
  unfold recs; infer_instance

theorem rec_dma (K : Dev nD × CI → ℕ) (j : Fin 6) (e : Dev nD) (k : Fin 4) :
    recs m K ⊢ iprop(cellInv ER (Rd m) (K (e, .inr (j, k))) (dcell j e k) ∗ reached ER (dcell j e k) 0) :=
  bigSep_elim (Φ := fun p : Dev nD × CI => iprop(cellInv ER (Rd m) (K p) (kcell p) ∗ reached ER (kcell p) 0))
    (Finset.mem_univ ((e, .inr (j, k)) : Dev nD × CI))
theorem rec_bar (K : Dev nD × CI → ℕ) (e : Dev nD) :
    recs m K ⊢ iprop(cellInv ER (Rd m) (K (e, .inl ())) (barCell e) ∗ reached ER (barCell e) 0) :=
  bigSep_elim (Φ := fun p : Dev nD × CI => iprop(cellInv ER (Rd m) (K p) (kcell p) ∗ reached ER (kcell p) 0))
    (Finset.mem_univ ((e, .inl ()) : Dev nD × CI))

section Held
variable (j : Fin 6) (c : Dev nD) (k : Fin 4)

/-- The right to pay a transfer cell. -/
def tk : sProp 𝕄 := dutyTok ER (dcell j c k) 0 false
def po : sProp 𝕄 := atPos ER (dcell j c k) 0 ∅ 0
/-- A transfer of its own cell under way: its round open, its credit to come. -/
def ac : sProp 𝕄 := iprop(po j c k ∗ cred (tallyAt (dcell j c k) () (credN j.val)))
/-- It is over: the counter back at zero, with what it moved. -/
def dn : sProp 𝕄 := iprop(semVal (dcell j c k) 0 ∗ dmaPay m c j.val k)

end Held

section Points
variable (c : Dev nD) (k : Fin 4)

/-- The chunk to hand over, written if this is one of the first `n` rows of the mesh. -/
def sD (n : ℕ) : sProp 𝕄 := iprop(∃ f, ⌜c.val / 2 < n → f = sF m c⌝ ∗ sP c k f)
/-- The chunk of sums, likewise. -/
def pD (n : ℕ) : sProp 𝕄 := iprop(∃ f, ⌜c.val / 2 < n → f = pF m c⌝ ∗ pP c k fullShare f)

/-- What the second stage needs of its own, -/
def rest : sProp 𝕄 := iprop((∃ f, pP c k fullShare f) ∗ (∃ f, oP c k c f) ∗ tk 1 c k ∗ tk 4 c k ∗ tk 5 (yp c) k ∗ po 1 c k ∗ po 4 c k ∗ ac 5 c k)
/-- and the first, after the fetch. -/
def mid : sProp 𝕄 := iprop(tk 2 c k ∗ tk 3 (xp c) k ∗ po 2 c k ∗ ac 3 c k ∗ rest c k)
/-- The neighbours' rows the barrier hands over. -/
def nb : sProp 𝕄 := iprop((∃ f, rP (xp c) k f) ∗ (∃ f, oP (yp c) k c f))

/-- Before the fetch, -/
def S0 : sProp 𝕄 := iprop(aP m c k fullShare.left ∗ (∃ f, vP c k f) ∗ tk 0 c k ∗ po 0 c k ∗ (∃ f, sP c k f) ∗ mid c k)
/-- during it, -/
def S1 : sProp 𝕄 := iprop(ac 0 c k ∗ (∃ f, sP c k f) ∗ mid c k)
/-- after it, `n` of the two branches of the staging behind, -/
def S2 (n : ℕ) : sProp 𝕄 := iprop(dn m 0 c k ∗ sD m c k n ∗ mid c k ∗ nb c k)
/-- handed over, -/
def S3 : sProp 𝕄 := iprop(dn m 0 c k ∗ ac 2 c k ∗ ac 3 c k ∗ rest c k ∗ (∃ f, oP (yp c) k c f))
/-- the peer's received, `n` of the two branches of the sum behind, -/
def S4 (n : ℕ) : sProp 𝕄 := iprop(dn m 0 c k ∗ ac 2 c k ∗ dn m 3 c k ∗ pD m c k n ∗ (∃ f, oP c k c f) ∗ tk 1 c k ∗ tk 4 c k ∗ tk 5 (yp c) k ∗ po 1 c k ∗ po 4 c k
  ∗ ac 5 c k ∗ (∃ f, oP (yp c) k c f))
/-- the sums sent, -/
def S5 : sProp 𝕄 := iprop(dn m 0 c k ∗ ac 2 c k ∗ dn m 3 c k ∗ pP c k fullShare.right (pF m c) ∗ (∃ f, oP c k c f) ∗ tk 1 c k ∗ po 1 c k ∗ ac 4 c k ∗ ac 5 c k)
/-- and copied to the own result. -/
def S6 : sProp 𝕄 := iprop(dn m 0 c k ∗ ac 2 c k ∗ dn m 3 c k ∗ ac 1 c k ∗ ac 4 c k ∗ ac 5 c k)
/-- Everything over. -/
def S7 : sProp 𝕄 := iprop(dn m 0 c k ∗ dn m 1 c k ∗ dn m 2 c k ∗ dn m 3 c k ∗ dn m 4 c k ∗ dn m 5 c k)

end Points

/-! ## The rules -/

section Rules
variable (K : Dev nD × CI → ℕ) {α : Type}
variable {Q : α → sProp (MT nD τ sig Unit (Elt F) ℕ UU ℕ)}

/-- A wait for a transfer of its own cell. -/
theorem wp_over (j : Fin 6) (c : Dev nD) (k : Fin 4) {sp sp' : Space} {s : Shape} {e : EltTy}
    {src : Memref sig .tc sp s e} {dst : Memref sig .tc sp' s e} {hs : src.view.WordExact} {hd : dst.view.WordExact}
    {kont : PUnit → Prog (TpuEff nD τ sig (Elt F) Λ₀ .tc) α} (O : CellTallies nD τ sig Unit)
    (hN : dst.view.dmaCredit = credN j.val) (hO : Above (if j.val = 3 then 2 else if j.val = 5 then 3 else 0) O) :
    iprop(recs m K ∗ levAts L lv ∗ ac j c k ∗ own c O)
      ⊢ iprop(((dn m j c k ∗ own c O) -∗ Wp c (kont ⟨⟩) Q) -∗ Wp c (.op (.waitDma2 (dsem j k) src dst hs hd) kont) Q) := by
  unfold ac own dn po
  iintro ⟨#HR, #Hlev, ⟨Hp, Hc⟩, ⟨%W, HO⟩⟩ Hk
  ihave HR' := (rec_dma m K j c k) $$ HR
  icases HR' with ⟨#HI, -⟩
  iapply (Rounds.wp_wait_rest_token 𝒱₀ ER (Rd m) (c : Thread nD τ) none (κ := K (c, .inr (j, k))) (sm := .dma (dsem j k)) (k' := credN j.val)
      (fun Kt => (wpE_waitDma2_eq 𝒱₀ (c : Thread nD τ) none Set.univ Kt).trans (by rw [hN])) (Set.mem_univ _) () (O := O) (W := W) (R := 0) (m := 0) (T := ∅)
      (by rw [Nat.zero_add, expect_dma])) $$ [Hc HO Hp]
  · isplitr; · iexact HI
    isplitl [Hc]; · iexact Hc
    isplitl [HO]; · iexact HO
    isplitr
    · iapply (mayWait_of_above c (.dma (dsem j k)) (show Above (lv (dcell j c k) ()) O by rw [lv_dma]; exact hO)); iexact Hlev
    iexact Hp
  iintro ⟨HO, Hp, -, Hpay⟩
  ihave Hpay := (Entails.of_eq (rest_dma m c j k)) $$ Hpay
  imod (Rounds.cell_close ER (Rd m) (Set.mem_univ (K (c, .inr (j, k)))) (fun h => h) (R := 0 + 1) (duties_later m (dcell j c k))) $$ [Hp] with Hz
  · isplitr; · iexact HI
    iexact Hp
  iapply Hk
  isplitl [Hz Hpay]
  · isplitl [Hz] <;> iassumption
  · iexists _; iexact HO

theorem amt_v (k : Fin 4) (q : DmaSem sig) : (vC k).view.amount (.dma q) = credN 0 := by
  unfold credN N1; rw [if_pos rfl]
theorem amt_r (k : Fin 4) (q : DmaSem sig) {j : ℕ} (hj : j ≠ 0) : (rC k).view.amount (.dma q) = credN j := by
  unfold credN N2; rw [if_neg hj]
theorem amt_s (k : Fin 4) (q : DmaSem sig) {j : ℕ} (hj : j ≠ 0) : (sC k).view.amount (.dma q) = credN j := by
  unfold credN N2; rw [if_neg hj]
theorem amt_p (k : Fin 4) (q : DmaSem sig) {j : ℕ} (hj : j ≠ 0) : (pC k).view.amount (.dma q) = credN j := by
  unfold credN N2; rw [if_neg hj]
theorem amt_o (h : Dev nD) (k : Fin 4) (q : DmaSem sig) {j : ℕ} (hj : j ≠ 0) : (oC h k).view.amount (.dma q) = credN j := by
  unfold credN N2; rw [if_neg hj]

/-- The fetch of a chunk. -/
theorem wp_fetch (c : Dev nD) (k : Fin 4) {hsrc : (aC c k).view.WordExact} {hdst : (vC k).view.WordExact} {hsem}
    {kont : PUnit → Prog (TpuEff nD τ sig (Elt F) Λ₀ .tc) α} :
    iprop(recs m K ∗ S0 m c k)
      ⊢ iprop((S1 c k -∗ Wp c (kont ⟨⟩) Q) -∗ Wp c (.op (.enqueueDma (aC c k) (.here (vC k)) (.dma (dsem 0 k)) hsrc hdst hsem) kont) Q) := by
  unfold S0 S1 ac tk aP vP
  iintro ⟨#HR, Ha, ⟨%f, Hv⟩, Ht, Hp, Hs⟩ Hk
  ihave HR' := (rec_dma m K 0 c k) $$ HR
  icases HR' with ⟨#HI, #Hr⟩
  iapply (Rounds.wp_copy_pointsTo 𝒱₀ ER (Rd m) (c : Thread nD τ) none (κ := K (c, .inr (0, k))) (r := 0) (d := false) (fs := xF m c) (fd := f) (mem_dma m c 0 k)
      () (credN 0) (amt_v k _) (amount_dma m c 0 k false)
      (by rw [payload_dma]; exact sep_elim_left.trans (Entails.of_eq (pointsTo_congr (fetch_eq m c k f))))) $$ [Ha Hv Ht]
  · isplitr; · iexact HI
    isplitl [Ha]; · iexact Ha
    isplitl [Hv]; · iexact Hv
    isplitl [Ht]; · iexact Ht
    iexact Hr
  iintro Hc
  iapply Hk
  isplitl [Hp Hc]
  · isplitl [Hp]; · iexact Hp
    iexact Hc
  · iexact Hs

/-- Half of the columns of a chunk lies in the chunk. -/
theorem cols_sub (k : Fin 4) (b : ℕ) (inb) :
    (Rect.unit (s := S256x1024) ![64 * k.val, 512 * b] S64x512.size inb).set ⊆ (Rect.unit (s := S256x1024) ![64 * k.val, 0] S64x1024.size (chunk_inb k)).set := by
  intro i hi
  rw [Rect.mem_set_unit] at hi
  have h0 : 64 * k.val ≤ (i 0 : Nat) ∧ (i 0 : Nat) < 64 * k.val + 64 := hi 0
  exact (mem_rows k i).mpr (by omega)

/-- A load of half of the columns of a fetched chunk. -/
theorem wp_cols (c : Dev nD) (k : Fin 4) (b : ℕ) {inb} {hl : (Memref.whole cc0_scratch0).view.LoadsAt (Rect.unit (s := S256x1024) ![64 * k.val, 512 * b] S64x512.size inb).toLoadRect}
    {kont : Vec F S64x512 .f32 → Prog (TpuEff nD τ sig (Elt F) Λ₀ .tc) α} (f : S256x1024.Idx → Elt F .f32) :
    vP c k f ⊢ iprop((vP c k f -∗ Wp c (kont ((Memref.whole cc0_scratch0).view.readAt (Elt F) (Rect.unit (s := S256x1024) ![64 * k.val, 512 * b] S64x512.size inb).toLoadRect f)) Q)
      -∗ Wp c (.op (.load (Memref.whole cc0_scratch0) (Rect.unit (s := S256x1024) ![64 * k.val, 512 * b] S64x512.size inb).toLoadRect hl) kont) Q) := by
  unfold vP
  exact wp_load_rect 𝒱₀ (c : Thread nD τ) none Set.univ (m := Memref.whole cc0_scratch0) (r := Rect.unit (s := S256x1024) ![64 * k.val, 512 * b] S64x512.size inb)
    ((Finset.subset_of_eq (View.set_slice_whole cc0_scratch0 _)).trans ((cols_sub k b inb).trans (Finset.subset_of_eq (View.set_slice_whole cc0_scratch0 _).symm)))

/-- One branch of the staging: row `n` of the mesh writes the columns the other row keeps. -/
theorem wp_stage (c : Dev nD) (k : Fin 4) (n b : ℕ) (hb : b < 2) (hnb : b = 1 - n) (pay : Vec F S64x512 .f32 → FVec F S64x512 .bf16) (hpay : ∀ v, pay v = k0_pay1 v)
    {cond : Prop} [Decidable cond] (hcond : cond ↔ c.val / 2 = n)
    {inb} {hl : (Memref.whole cc0_scratch0).view.LoadsAt (Rect.unit (s := S256x1024) ![64 * k.val, 512 * b] S64x512.size inb).toLoadRect}
    {inb'} {hl' : (Memref.whole cc0_scratch1).view.LoadsAt (Rect.unit (s := S256x512) ![64 * k.val, 0] S64x512.size inb').toLoadRect} {hx} {hm}
    {kont : Prog (TpuEff nD τ sig (Elt F) Λ₀ .tc) α} :
    S2 m c k n
      ⊢ iprop((S2 m c k (n + 1) -∗ Wp c kont Q)
        -∗ Wp c (if h : cond then
              .op (.load (Memref.whole cc0_scratch0) (Rect.unit (s := S256x1024) ![64 * k.val, 512 * b] S64x512.size inb).toLoadRect hl) fun v =>
              .op (.load (Memref.whole cc0_scratch1) (Rect.unit (s := S256x512) ![64 * k.val, 0] S64x512.size inb').toLoadRect hl') fun _ =>
              .op (.store (Memref.whole cc0_scratch1) (Rect.unit (s := S256x512) ![64 * k.val, 0] S64x512.size inb') (pay v) Finset.univ hx hm) fun _ => kont
            else kont) Q) := by
  unfold S2 dn sD
  by_cases h : cond
  · rw [dif_pos h]
    iintro ⟨⟨Hz, Hv⟩, ⟨%f, %hf, Hs⟩, Hr⟩ Hk
    ihave Hv := (show dmaPay m c (0 : Fin 6).val k ⊢ vP c k (vF m c) from Entails.refl _) $$ Hv
    unfold sP
    iapply (wp_cols c k b (vF m c)) $$ Hv
    iintro Hv
    iapply (wp_load_rect 𝒱₀ (c : Thread nD τ) none Set.univ (m := Memref.whole cc0_scratch1) (Finset.Subset.refl (sC k).view.set)) $$ Hs
    iintro Hs
    iapply (wp_store 𝒱₀ (c : Thread nD τ) none Set.univ (m := Memref.whole cc0_scratch1) (Mk := Finset.univ) (Finset.Subset.refl (sC k).view.set)) $$ Hs
    iintro Hs
    iapply Hk
    isplitl [Hz Hv]
    · isplitl [Hz]; · iexact Hz
      iapply (show vP c k (vF m c) ⊢ dmaPay m c (0 : Fin 6).val k from Entails.refl _); iexact Hv
    isplitl [Hs]
    · iexists (sF m c)
      isplitr; · ipureintro; exact fun _ => rfl
      ihave Hs := (Entails.of_eq (pointsTo_congr (stage_eq m c k _ f
        fun x => (congrFun (hpay _) x).trans (stage_val m b hb c (hnb.trans (by rw [hcond.mp h])) k inb x)))) $$ Hs
      iexact Hs
    iexact Hr
  · rw [dif_neg h]
    iintro ⟨Hd, ⟨%f, %hf, Hs⟩, Hr⟩ Hk
    iapply Hk
    isplitl [Hd]; · iexact Hd
    isplitl [Hs]
    · iexists f
      isplitr; · ipureintro; exact fun hlt => hf (lt_of_le_of_ne (Nat.lt_succ_iff.mp hlt) fun e => h (hcond.mpr e))
      iexact Hs
    iexact Hr

/-- One branch of the sum: row `n` of the mesh adds the columns it keeps. -/
theorem wp_sum (c : Dev nD) (k : Fin 4) (n : ℕ) (hb : n < 2) (pay : Vec F S64x512 .f32 → Vec F S64x512 .bf16 → FVec F S64x512 .bf16) (hpay : ∀ v w, pay v w = k0_pay9 v w)
    {cond : Prop} [Decidable cond] (hcond : cond ↔ c.val / 2 = n)
    {inb} {hl : (Memref.whole cc0_scratch0).view.LoadsAt (Rect.unit (s := S256x1024) ![64 * k.val, 512 * n] S64x512.size inb).toLoadRect}
    {inb'} {hl' : (Memref.whole cc0_scratch2).view.LoadsAt (Rect.unit (s := S256x512) ![64 * k.val, 0] S64x512.size inb').toLoadRect}
    {hl'' : (Memref.whole cc0_scratch3).view.LoadsAt (Rect.unit (s := S256x512) ![64 * k.val, 0] S64x512.size inb').toLoadRect} {hx} {hm}
    {kont : Prog (TpuEff nD τ sig (Elt F) Λ₀ .tc) α} :
    S4 m c k n
      ⊢ iprop((S4 m c k (n + 1) -∗ Wp c kont Q)
        -∗ Wp c (if h : cond then
              .op (.load (Memref.whole cc0_scratch0) (Rect.unit (s := S256x1024) ![64 * k.val, 512 * n] S64x512.size inb).toLoadRect hl) fun v =>
              .op (.load (Memref.whole cc0_scratch2) (Rect.unit (s := S256x512) ![64 * k.val, 0] S64x512.size inb').toLoadRect hl') fun w =>
              .op (.load (Memref.whole cc0_scratch3) (Rect.unit (s := S256x512) ![64 * k.val, 0] S64x512.size inb').toLoadRect hl'') fun _ =>
              .op (.store (Memref.whole cc0_scratch3) (Rect.unit (s := S256x512) ![64 * k.val, 0] S64x512.size inb') (pay v w) Finset.univ hx hm) fun _ => kont
            else kont) Q) := by
  unfold S4 dn pD
  by_cases h : cond
  · rw [dif_pos h]
    iintro ⟨⟨Hz, Hv⟩, H2, ⟨Hz3, Hw⟩, ⟨%f, %hf, Hp⟩, Hr⟩ Hk
    ihave Hv := (show dmaPay m c (0 : Fin 6).val k ⊢ vP c k (vF m c) from Entails.refl _) $$ Hv
    ihave Hw := (show dmaPay m c (3 : Fin 6).val k ⊢ rP c k (sF m (xp c)) from Entails.refl _) $$ Hw
    unfold rP pP
    iapply (wp_cols c k n (vF m c)) $$ Hv
    iintro Hv
    iapply (wp_load_rect 𝒱₀ (c : Thread nD τ) none Set.univ (m := Memref.whole cc0_scratch2) (Finset.Subset.refl (rC k).view.set)) $$ Hw
    iintro Hw
    iapply (wp_load_rect 𝒱₀ (c : Thread nD τ) none Set.univ (m := Memref.whole cc0_scratch3) (Finset.Subset.refl (pC k).view.set)) $$ Hp
    iintro Hp
    iapply (wp_store 𝒱₀ (c : Thread nD τ) none Set.univ (m := Memref.whole cc0_scratch3) (Mk := Finset.univ) (Finset.Subset.refl (pC k).view.set)) $$ Hp
    iintro Hp
    iapply Hk
    isplitl [Hz Hv]
    · isplitl [Hz]; · iexact Hz
      iapply (show vP c k (vF m c) ⊢ dmaPay m c (0 : Fin 6).val k from Entails.refl _); iexact Hv
    isplitl [H2]; · iexact H2
    isplitl [Hz3 Hw]
    · isplitl [Hz3]; · iexact Hz3
      iapply (show rP c k (sF m (xp c)) ⊢ dmaPay m c (3 : Fin 6).val k from Entails.refl _); unfold rP; iexact Hw
    isplitl [Hp]
    · iexists (pF m c)
      isplitr; · ipureintro; exact fun _ => rfl
      ihave Hp := (Entails.of_eq (pointsTo_congr (sum_eq m c k _ f
        fun x => (congrFun (hpay _ _) x).trans (sum_val m n hb c (hcond.mp h).symm k inb inb' x)))) $$ Hp
      iexact Hp
    iexact Hr
  · rw [dif_neg h]
    iintro ⟨Hd, H2, H3, ⟨%f, %hf, Hp⟩, Hr⟩ Hk
    iapply Hk
    isplitl [Hd]; · iexact Hd
    isplitl [H2]; · iexact H2
    isplitl [H3]; · iexact H3
    isplitl [Hp]
    · iexists f
      isplitr; · ipureintro; exact fun hlt => hf (lt_of_le_of_ne (Nat.lt_succ_iff.mp hlt) fun e => h (hcond.mpr e))
      iexact Hp
    iexact Hr

/-- The chunk sent to the `x` peer. -/
theorem wp_hand (c n : Dev nD) (hn : n = xp c) (k : Fin 4) (i : ℕ) (hi : k.val = 3 - i)
    {hsc : (rC k : Memref sig (Dev.tc n : Thread nD τ).2.kind .vmem S64x512 .bf16).view.ref.isScScratch = false}
    {hsrc : (sC k).view.WordExact} {hdst : (rC k).view.WordExact}
    {hsem : DmaTarget.Typed .vmem (.dma (dsem 3 k)) (.remote (Dev.tc n : Thread nD τ) (rC k) (.dma (dsem 2 k)) hsc)}
    {kont : PUnit → Prog (TpuEff nD τ sig (Elt F) Λ₀ .tc) α} :
    iprop(recs m K ∗ S2 m c k 2 ∗ own c (Oc c (i + 1)))
      ⊢ iprop(((S3 m c k ∗ own c (Oc c i)) -∗ Wp c (kont ⟨⟩) Q)
        -∗ Wp c (.op (.enqueueDma (sC k) (.remote (Dev.tc n : Thread nD τ) (rC k) (.dma (dsem 2 k)) hsc) (.dma (dsem 3 k)) hsrc hdst hsem) kont) Q) := by
  subst hn
  unfold S2 S3 sD mid nb own tk
  iintro ⟨#HR, ⟨Hd, ⟨%f, %hf, Hs⟩, ⟨Ht2, Ht3, Hp2, Ha3, Hrest⟩, ⟨%fr, Hr⟩, Ho⟩, ⟨%W, HO⟩⟩ Hk
  obtain rfl : f = sF m c := hf (x_lt c)
  ihave HR2 := (rec_dma m K 2 c k) $$ HR
  icases HR2 with ⟨#HI2, #Hr2⟩
  ihave HR3 := (rec_dma m K 3 (xp c) k) $$ HR
  icases HR3 with ⟨#HI3, #Hr3⟩
  unfold sP rP
  iapply (Rounds.wp_send_pointsTo 𝒱₀ ER (Rd m) (c : Thread nD τ) none (κ₁ := K (c, .inr (2, k))) (κ₂ := K (xp c, .inr (3, k)))
    (r₁ := 0) (r₂ := 0) (d₁ := false) (d₂ := false) (fs := sF m c) (fd := fr) (mem_dma m c 2 k) (mem_dma m (xp c) 3 k)
    () () N2 ((amt_r k _ (j := 3) (by decide)).trans (credN_eq (by decide))) ((amount_dma m c 2 k false).trans (credN_eq (by decide)))
    ((amount_dma m (xp c) 3 k false).trans (credN_eq (by decide))) (Oc c i)
    (Oc_succ c i k hi)
    (W := W) (by rw [payload_dma]; exact Entails.refl _)
    (by rw [payload_dma]; refine (Entails.of_eq (pointsTo_congr (hand_eq m c k fr))).trans ?_; show _ ⊢ rP (xp c) k (sF m (xp (xp c))); rw [xp_xp]; exact Entails.refl _)) $$ [Hs Hr HO Ht2 Ht3]
  · isplitr; · iexact HI2
    isplitr; · iexact HI3
    isplitl [Hs]; · iexact Hs
    isplitl [Hr]; · iexact Hr
    isplitl [HO]; · iexact HO
    isplitl [Ht2]; · iexact Ht2
    isplitr; · iexact Hr2
    isplitl [Ht3]; · iexact Ht3
    iexact Hr3
  iintro ⟨Hc, HO⟩
  iapply Hk
  isplitr [HO]
  · isplitl [Hd]; · iexact Hd
    isplitl [Hp2 Hc]
    · unfold ac; rw [credN_eq (show (2 : Fin 6).val ≠ 0 by decide)]
      isplitl [Hp2]; · iexact Hp2
      iexact Hc
    isplitl [Ha3]; · iexact Ha3
    isplitl [Hrest]; · iexact Hrest
    iexact Ho
  · iexists W; iexact HO

/-- The sums sent to the `y` peer. -/
theorem wp_give (c n : Dev nD) (hn : n = yp c) (k : Fin 4) (i : ℕ) (hi : k.val = 3 - i)
    {hsc : (oC c k : Memref sig (Dev.tc n : Thread nD τ).2.kind .hbm S64x512 .bf16).view.ref.isScScratch = false}
    {hsrc : (pC k).view.WordExact} {hdst : (oC c k).view.WordExact}
    {hsem : DmaTarget.Typed .vmem (.dma (dsem 5 k)) (.remote (Dev.tc n : Thread nD τ) (oC c k) (.dma (dsem 4 k)) hsc)}
    {kont : PUnit → Prog (TpuEff nD τ sig (Elt F) Λ₀ .tc) α} :
    iprop(recs m K ∗ S4 m c k 2 ∗ own c (due 5 (yp c) (i + 1)))
      ⊢ iprop(((S5 m c k ∗ own c (due 5 (yp c) i)) -∗ Wp c (kont ⟨⟩) Q)
        -∗ Wp c (.op (.enqueueDma (pC k) (.remote (Dev.tc n : Thread nD τ) (oC c k) (.dma (dsem 4 k)) hsc) (.dma (dsem 5 k)) hsrc hdst hsem) kont) Q) := by
  subst hn
  unfold S4 S5 pD own tk
  iintro ⟨#HR, ⟨Hd, H2, H3, ⟨%f, %hf, Hp⟩, Hoo, Ht1, Ht4, Ht5, Hp1, Hp4, Ha5, ⟨%fo, Ho⟩⟩, ⟨%W, HO⟩⟩ Hk
  obtain rfl : f = pF m c := hf (x_lt c)
  ihave HR4 := (rec_dma m K 4 c k) $$ HR
  icases HR4 with ⟨#HI4, #Hr4⟩
  ihave HR5 := (rec_dma m K 5 (yp c) k) $$ HR
  icases HR5 with ⟨#HI5, #Hr5⟩
  unfold pP oP
  ihave Hp := (pointsTo_share (PosShare.mem_left_op_right fullShare)).1 $$ Hp
  icases Hp with ⟨HpL, HpR⟩
  iapply (Rounds.wp_send_pointsTo 𝒱₀ ER (Rd m) (c : Thread nD τ) none (κ₁ := K (c, .inr (4, k))) (κ₂ := K (yp c, .inr (5, k)))
    (r₁ := 0) (r₂ := 0) (d₁ := false) (d₂ := false) (fs := pF m c) (fd := fo) (mem_dma m c 4 k) (mem_dma m (yp c) 5 k)
    () () N2 ((amt_o c k _ (j := 5) (by decide)).trans (credN_eq (by decide))) ((amount_dma m c 4 k false).trans (credN_eq (by decide)))
    ((amount_dma m (yp c) 5 k false).trans (credN_eq (by decide))) (due 5 (yp c) i)
    (due_succ 5 (yp c) i k hi)
    (W := W) (by rw [payload_dma]; exact Entails.refl _)
    (by rw [payload_dma]; refine (Entails.of_eq (pointsTo_congr (out_eq m c (yp c) (Or.inr rfl) k fo))).trans ?_; show _ ⊢ oP (yp c) k (yp (yp c)) (oF m (yp c)); rw [yp_yp]; exact Entails.refl _)) $$ [HpL Ho HO Ht4 Ht5]
  · isplitr; · iexact HI4
    isplitr; · iexact HI5
    isplitl [HpL]; · iexact HpL
    isplitl [Ho]; · iexact Ho
    isplitl [HO]; · iexact HO
    isplitl [Ht4]; · iexact Ht4
    isplitr; · iexact Hr4
    isplitl [Ht5]; · iexact Ht5
    iexact Hr5
  iintro ⟨Hc, HO⟩
  iapply Hk
  isplitr [HO]
  · isplitl [Hd]; · iexact Hd
    isplitl [H2]; · iexact H2
    isplitl [H3]; · iexact H3
    isplitl [HpR]; · iexact HpR
    isplitl [Hoo]; · iexact Hoo
    isplitl [Ht1]; · iexact Ht1
    isplitl [Hp1]; · iexact Hp1
    isplitl [Hp4 Hc]
    · unfold ac; rw [credN_eq (show (4 : Fin 6).val ≠ 0 by decide)]
      isplitl [Hp4]; · iexact Hp4
      iexact Hc
    iexact Ha5
  · iexists W; iexact HO

/-- The sums copied to the own result. -/
theorem wp_keep (c : Dev nD) (k : Fin 4) {hsrc : (pC k).view.WordExact} {hdst : (oC c k).view.WordExact} {hsem}
    {kont : PUnit → Prog (TpuEff nD τ sig (Elt F) Λ₀ .tc) α} :
    iprop(recs m K ∗ S5 m c k)
      ⊢ iprop((S6 m c k -∗ Wp c (kont ⟨⟩) Q) -∗ Wp c (.op (.enqueueDma (pC k) (.here (oC c k)) (.dma (dsem 1 k)) hsrc hdst hsem) kont) Q) := by
  unfold S5 S6 tk pP oP
  iintro ⟨#HR, Hd, H2, H3, Hp, ⟨%fo, Ho⟩, Ht, Hp1, Ha4, Ha5⟩ Hk
  ihave HR' := (rec_dma m K 1 c k) $$ HR
  icases HR' with ⟨#HI, #Hr⟩
  iapply (Rounds.wp_copy_pointsTo 𝒱₀ ER (Rd m) (c : Thread nD τ) none (κ := K (c, .inr (1, k))) (r := 0) (d := false) (fs := pF m c) (fd := fo) (mem_dma m c 1 k)
      () (credN 1) (amt_o c k _ (by decide)) (amount_dma m c 1 k false)
      (by rw [payload_dma]; exact sep_mono_left (Entails.of_eq (pointsTo_congr (out_eq m c c (Or.inl rfl) k fo))))) $$ [Hp Ho Ht]
  · isplitr; · iexact HI
    isplitl [Hp]; · iexact Hp
    isplitl [Ho]; · iexact Ho
    isplitl [Ht]; · iexact Ht
    iexact Hr
  iintro Hc
  iapply Hk
  isplitl [Hd]; · iexact Hd
  isplitl [H2]; · iexact H2
  isplitl [H3]; · iexact H3
  isplitl [Hp1 Hc]
  · unfold ac; isplitl [Hp1]; · iexact Hp1
    iexact Hc
  isplitl [Ha4] <;> iassumption

/-- The wait for the fetch, the barrier passed. -/
theorem wp_fetched (c : Dev nD) (k : Fin 4) {sp sp' : Space} {s : Shape} {e : EltTy}
    {src : Memref sig .tc sp s e} {dst : Memref sig .tc sp' s e} {hs : src.view.WordExact} {hd : dst.view.WordExact}
    {kont : PUnit → Prog (TpuEff nD τ sig (Elt F) Λ₀ .tc) α} (O : CellTallies nD τ sig Unit)
    (hN : dst.view.dmaCredit = credN 0) (hO : Above 0 O) :
    iprop(recs m K ∗ levAts L lv ∗ S1 c k ∗ nb c k ∗ own c O)
      ⊢ iprop(((S2 m c k 0 ∗ own c O) -∗ Wp c (kont ⟨⟩) Q) -∗ Wp c (.op (.waitDma2 (dsem 0 k) src dst hs hd) kont) Q) := by
  unfold S1 S2 sD
  iintro ⟨#HR, #Hlev, ⟨Ha, ⟨%f, Hs⟩, Hm⟩, Hn, HO⟩ Hk
  iapply (wp_over m K 0 c k O hN hO) $$ [Ha HO]
  · isplitr; · iexact HR
    isplitr; · iexact Hlev
    isplitl [Ha] <;> iassumption
  iintro ⟨Hd, HO⟩
  iapply Hk
  isplitr [HO]
  · isplitl [Hd]; · iexact Hd
    isplitl [Hs]
    · iexists f; isplitr; · ipureintro; exact fun h => absurd h (Nat.not_lt_zero _)
      iexact Hs
    isplitl [Hm] <;> iassumption
  · iexact HO

/-- The wait for the `x` peer's chunk. -/
theorem wp_handed (c : Dev nD) (k : Fin 4) {sp sp' : Space} {s : Shape} {e : EltTy}
    {src : Memref sig .tc sp s e} {dst : Memref sig .tc sp' s e} {hs : src.view.WordExact} {hd : dst.view.WordExact}
    {kont : PUnit → Prog (TpuEff nD τ sig (Elt F) Λ₀ .tc) α} (O : CellTallies nD τ sig Unit)
    (hN : dst.view.dmaCredit = credN 3) (hO : Above 2 O) :
    iprop(recs m K ∗ levAts L lv ∗ S3 m c k ∗ own c O)
      ⊢ iprop(((S4 m c k 0 ∗ own c O) -∗ Wp c (kont ⟨⟩) Q) -∗ Wp c (.op (.waitDma2 (dsem 3 k) src dst hs hd) kont) Q) := by
  unfold S3 S4 rest pD
  iintro ⟨#HR, #Hlev, ⟨Hd0, Ha2, Ha3, ⟨⟨%f, Hp⟩, Hoo, Ht1, Ht4, Ht5, Hp1, Hp4, Ha5⟩, Ho⟩, HO⟩ Hk
  iapply (wp_over m K 3 c k O hN hO) $$ [Ha3 HO]
  · isplitr; · iexact HR
    isplitr; · iexact Hlev
    isplitl [Ha3] <;> iassumption
  iintro ⟨Hd, HO⟩
  iapply Hk
  isplitr [HO]
  · isplitl [Hd0]; · iexact Hd0
    isplitl [Ha2]; · iexact Ha2
    isplitl [Hd]; · iexact Hd
    isplitl [Hp]
    · iexists f; isplitr; · ipureintro; exact fun h => absurd h (Nat.not_lt_zero _)
      iexact Hp
    isplitl [Hoo]; · iexact Hoo
    isplitl [Ht1]; · iexact Ht1
    isplitl [Ht4]; · iexact Ht4
    isplitl [Ht5]; · iexact Ht5
    isplitl [Hp1]; · iexact Hp1
    isplitl [Hp4]; · iexact Hp4
    isplitl [Ha5] <;> iassumption
  · iexact HO

/-- What the barrier starts from: what is given to each neighbour, the right to signal it, and the own cell's round. -/
def bar (c : Dev nD) : sProp 𝕄 :=
  iprop(barX (xp c) ∗ barY (yp c) ∗ dutyTok ER (barCell (xp c)) 0 false ∗ dutyTok ER (barCell (yp c)) 0 true
    ∗ atPos ER (barCell c) 0 ∅ 0 ∗ cred (tallyAt (barCell c) () 2))

/-- The barrier with the two neighbours. -/
theorem wp_barrier (c : Dev nD) {kont : PUnit → Prog (TpuEff nD τ sig (Elt F) Λ₀ .tc) α} :
    iprop(recs m K ∗ levAts L lv ∗ bar c ∗ own c (O₀ c))
      ⊢ iprop(((barX c ∗ barY c ∗ semVal (barCell c) 0 ∗ own c (Oc c 4)) -∗ Wp c (kont ⟨⟩) Q)
        -∗ Wp c (.op (.semSignal (xp c : Thread nD τ) barS (1#32).toInt) fun _ => .op (.semSignal (yp c : Thread nD τ) barS (1#32).toInt) fun _ =>
            .op (.semWait barS (2#32).toInt) kont) Q) := by
  unfold own bar
  iintro ⟨#HR, #Hlev, ⟨HX, HY, HtX, HtY, Hp, Hc⟩, ⟨%W, HO⟩⟩ Hk
  ihave HRx := (rec_bar m K (xp c)) $$ HR
  icases HRx with ⟨#HIx, #Hrx⟩
  ihave HRy := (rec_bar m K (yp c)) $$ HR
  icases HRy with ⟨#HIy, #Hry⟩
  ihave HRc := (rec_bar m K c) $$ HR
  icases HRc with ⟨#HI, -⟩
  iapply (Rounds.wp_signal 𝒱₀ ER (Rd m) (c : Thread nD τ) none (dst := (xp c : Thread nD τ)) (κ := K (xp c, .inl ()))
      (d := false) (mem_bar m (xp c) false) ((amount_bar m (xp c) false).trans (by decide)) () (O₁ c) rfl) $$ [HO HtX HX]
  · isplitr; · iexact HIx
    isplitl [HO]; · iexact HO
    isplitl [HtX]; · iexact HtX
    isplitl [HX]; · rw [payload_bar_false]; iexact HX
    iexact Hrx
  iintro HO
  iapply (Rounds.wp_signal 𝒱₀ ER (Rd m) (c : Thread nD τ) none (dst := (yp c : Thread nD τ)) (κ := K (yp c, .inl ()))
      (d := true) (mem_bar m (yp c) true) ((amount_bar m (yp c) true).trans (by decide)) () (Oc c 4) rfl) $$ [HO HtY HY]
  · isplitr; · iexact HIy
    isplitl [HO]; · iexact HO
    isplitl [HtY]; · iexact HtY
    isplitl [HY]; · rw [payload_bar_true]; iexact HY
    iexact Hry
  iintro HO
  iapply (Rounds.wp_wait_rest_token 𝒱₀ ER (Rd m) (c : Thread nD τ) none (κ := K (c, .inl ()))
      (wpE_semWait_eq 𝒱₀ (c : Thread nD τ) none Set.univ) (Set.mem_univ _) () (O := Oc c 4) (W := W) (R := 0) (m := 0) (T := ∅)
      (by rw [expect_bar]; decide)) $$ [Hc HO Hp]
  · isplitr; · iexact HI
    isplitl [Hc]; · iexact Hc
    isplitl [HO]; · iexact HO
    isplitr
    · iapply (mayWait_of_above c (.reg barS) (above_Oc (n := 1) c 4 (by decide))); iexact Hlev
    iexact Hp
  iintro ⟨HO, Hp, -, Hpay⟩
  ihave Hpay := (Entails.of_eq (rest_bar m c)) $$ Hpay
  icases Hpay with ⟨HX, HY⟩
  imod (Rounds.cell_close ER (Rd m) (Set.mem_univ (K (c, .inl ()))) (fun h => h) (R := 0 + 1) (duties_later m (barCell c))) $$ [Hp] with Hz
  · isplitr; · iexact HI
    iexact Hp
  iapply Hk
  isplitl [HX]; · iexact HX
  isplitl [HY]; · iexact HY
  isplitl [Hz]; · iexact Hz
  iexists _; iexact HO

end Rules

end Cert.KernelIdealProof
-- ==== Proof.KernelIdealBody.lean ====
/-
# The body of one core

Every operation of the program in order, each by its rule, at any device.
-/
module

public import proofs.«01_k».proof.Proof.KernelIdealSteps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The two printed conditions -/

theorem row0 (c : Dev nD) : Scalar.cmpi .ne (Scalar.extui (Scalar.cmpi .eq (Scalar.remsi (Scalar.divsi (Dev.word c) 2#32) 2#32) 0#32)) 0#32 = 1#1 ↔ c.val / 2 = 0 := by
  revert c; decide
theorem row1 (c : Dev nD) : Scalar.cmpi .ne (Scalar.extui (Scalar.cmpi .eq (Scalar.remsi (Scalar.divsi (Dev.word c) 2#32) 2#32) 1#32)) 0#32 = 1#1 ↔ c.val / 2 = 1 := by
  revert c; decide

/-- A finished part hands its result on. -/
theorem wp_end {α : Type} {c : Dev nD} {a : α} {Q : α → sProp (MT nD τ sig Unit (Elt F) ℕ UU ℕ)} : Q a ⊢ Wp c (Prog.ret a) Q := by
  unfold Wp; rw [wp_ret]; exact fupd_intro

theorem Oc_zero (c : Dev nD) : Oc c 0 = due 5 (yp c) 4 := add_zero _

omit [FloatOps F] in
theorem four (P : Fin 4 → sProp 𝕄) : bigSep Finset.univ P = iprop(P 0 ∗ P 1 ∗ P 2 ∗ P 3) := by
  rw [bigSep_univ_eq_bigSepL [0, 1, 2, 3] (by decide) (by decide)]; rfl

omit [FloatOps F] in
/-- The barrier hands over all four chunks of each neighbour. -/
theorem nb_split (c : Dev nD) : iprop(barX c ∗ barY c) ⊢ (iprop(nb c 0 ∗ nb c 1 ∗ nb c 2 ∗ nb c 3) : sProp 𝕄) := by
  unfold barX barY nb
  iintro ⟨⟨%f, HX⟩, ⟨%g, HY⟩⟩
  ihave HX' := (Entails.of_eq (four fun k => rP (xp c) k f)) $$ HX
  ihave HY' := (Entails.of_eq (four fun k => oP (yp c) k c g)) $$ HY
  icases HX' with ⟨X0, X1, X2, X3⟩
  icases HY' with ⟨Y0, Y1, Y2, Y3⟩
  isplitl [X0 Y0]; · isplitl [X0]; · iexists f; iexact X0
                     iexists g; iexact Y0
  isplitl [X1 Y1]; · isplitl [X1]; · iexists f; iexact X1
                     iexists g; iexact Y1
  isplitl [X2 Y2]; · isplitl [X2]; · iexists f; iexact X2
                     iexists g; iexact Y2
  isplitl [X3]; · iexists f; iexact X3
  iexists g; iexact Y3

/-- What a core's body starts from, at the names `K`, -/
def bodyPre (K : Dev nD × CI → ℕ) (c : Dev nD) : sProp 𝕄 :=
  iprop(recs m K ∗ levAts L lv ∗ (S0 m c 0 ∗ S0 m c 1 ∗ S0 m c 2 ∗ S0 m c 3) ∗ bar c ∗ own c (O₀ c))
/-- and what it ends with. -/
def bodyPost (c : Dev nD) : sProp 𝕄 :=
  iprop((bigSep Finset.univ fun k => S7 m c k) ∗ semVal (barCell c) 0 ∗ own c 0)

set_option maxHeartbeats 4000000 in
theorem sound_body (K : Dev nD × CI → ℕ) (c : Dev nD) (Kt : PUnit → sProp 𝕄) :
    iprop(bodyPre m K c ∗ (bodyPost m c -∗ Kt ⟨⟩))
      ⊢ wp frame (wpE (defs₀ (F := F)) 𝒱₀ (c : Thread nD τ) none) Set.univ
          (cc0_body (Memref.whole main_arg0) (Memref.isWhole_whole _) (Memref.whole main_v1) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7 cc0_scratch8 cc0_scratch9) Kt := by
  unfold bodyPre bodyPost
  simp only [cc0_body_eq_skeleton]; unfold cc0_body_skel
  iintro ⟨⟨#HR, #Hlev, ⟨H0, H1, H2, H3⟩, HB, HO⟩, Hk⟩
  rw [wp_bind]
  simp only [k0_part1_eq_skeleton]; unfold k0_part1_skel
  simp only [semSignalWord, semWaitWord, Prog.lift, Prog.bind_op, Prog.bind_ret, Prog.pure_eq_ret, wp_deviceId]
  iapply (wp_fetch m K c 0) $$ [H0]
  · isplitr; · iexact HR
    iexact H0
  iintro H0
  iapply (wp_fetch m K c 1) $$ [H1]
  · isplitr; · iexact HR
    iexact H1
  iintro H1
  iapply (wp_fetch m K c 2) $$ [H2]
  · isplitr; · iexact HR
    iexact H2
  iintro H2
  iapply wp_end
  rw [wp_bind]
  simp only [k0_part2_eq_skeleton]; unfold k0_part2_skel
  simp only [semSignalWord, semWaitWord, Prog.lift, Prog.bind_op, Prog.bind_ret, Prog.pure_eq_ret, wp_deviceId]
  iapply (wp_fetch m K c 3) $$ [H3]
  · isplitr; · iexact HR
    iexact H3
  iintro H3
  iapply (wp_barrier m K c) $$ [HB HO]
  · isplitr; · iexact HR
    isplitr; · iexact Hlev
    isplitl [HB] <;> iassumption
  iintro ⟨HX, HY, HzB, HO⟩
  ihave HN := (nb_split c) $$ [HX HY]
  · isplitl [HX] <;> iassumption
  icases HN with ⟨HN0, HN1, HN2, HN3⟩
  iapply (wp_fetched m K c 0 (Oc c 4) (amt_v 0 (dsem 0 0)) (above_Oc (n := 0) c 4 (by decide))) $$ [H0 HN0 HO]
  · isplitr; · iexact HR
    isplitr; · iexact Hlev
    isplitl [H0]; · iexact H0
    isplitl [HN0] <;> iassumption
  iintro ⟨H0, HO⟩
  iapply (wp_stage m c 0 0 1 (by decide) rfl _ (fun _ => rfl) (row0 c)) $$ H0; iintro H0
  iapply (wp_stage m c 0 1 0 (by decide) rfl _ (fun _ => rfl) (row1 c)) $$ H0; iintro H0
  iapply wp_end
  rw [wp_bind]
  simp only [k0_part3_eq_skeleton]; unfold k0_part3_skel
  simp only [semSignalWord, semWaitWord, Prog.lift, Prog.bind_op, Prog.bind_ret, Prog.pure_eq_ret, wp_deviceId]
  iapply (wp_hand m K c _ (Fin.ext ((k0_dev3_eq c).trans (xp_val c).symm)) 0 3 rfl) $$ [H0 HO]
  · isplitr; · iexact HR
    isplitl [H0] <;> iassumption
  iintro ⟨H0, HO⟩
  iapply (wp_fetched m K c 1 (Oc c 3) (amt_v 1 (dsem 0 1)) (above_Oc (n := 0) c 3 (by decide))) $$ [H1 HN1 HO]
  · isplitr; · iexact HR
    isplitr; · iexact Hlev
    isplitl [H1]; · iexact H1
    isplitl [HN1] <;> iassumption
  iintro ⟨H1, HO⟩
  iapply (wp_stage m c 1 0 1 (by decide) rfl _ (fun _ => rfl) (row0 c)) $$ H1; iintro H1
  iapply (wp_stage m c 1 1 0 (by decide) rfl _ (fun _ => rfl) (row1 c)) $$ H1; iintro H1
  iapply wp_end
  rw [wp_bind]
  simp only [k0_part4_eq_skeleton]; unfold k0_part4_skel
  simp only [semSignalWord, semWaitWord, Prog.lift, Prog.bind_op, Prog.bind_ret, Prog.pure_eq_ret, wp_deviceId]
  iapply (wp_hand m K c _ (Fin.ext ((k0_dev4_eq c).trans (xp_val c).symm)) 1 2 rfl) $$ [H1 HO]
  · isplitr; · iexact HR
    isplitl [H1] <;> iassumption
  iintro ⟨H1, HO⟩
  iapply (wp_fetched m K c 2 (Oc c 2) (amt_v 2 (dsem 0 2)) (above_Oc (n := 0) c 2 (by decide))) $$ [H2 HN2 HO]
  · isplitr; · iexact HR
    isplitr; · iexact Hlev
    isplitl [H2]; · iexact H2
    isplitl [HN2] <;> iassumption
  iintro ⟨H2, HO⟩
  iapply (wp_stage m c 2 0 1 (by decide) rfl _ (fun _ => rfl) (row0 c)) $$ H2; iintro H2
  iapply (wp_stage m c 2 1 0 (by decide) rfl _ (fun _ => rfl) (row1 c)) $$ H2; iintro H2
  iapply (wp_hand m K c _ (Fin.ext ((k0_dev5_eq c).trans (xp_val c).symm)) 2 1 rfl) $$ [H2 HO]
  · isplitr; · iexact HR
    isplitl [H2] <;> iassumption
  iintro ⟨H2, HO⟩
  iapply (wp_fetched m K c 3 (Oc c 1) (amt_v 3 (dsem 0 3)) (above_Oc (n := 0) c 1 (by decide))) $$ [H3 HN3 HO]
  · isplitr; · iexact HR
    isplitr; · iexact Hlev
    isplitl [H3]; · iexact H3
    isplitl [HN3] <;> iassumption
  iintro ⟨H3, HO⟩
  iapply wp_end
  rw [wp_bind]
  simp only [k0_part5_eq_skeleton]; unfold k0_part5_skel
  simp only [semSignalWord, semWaitWord, Prog.lift, Prog.bind_op, Prog.bind_ret, Prog.pure_eq_ret, wp_deviceId]
  iapply (wp_stage m c 3 0 1 (by decide) rfl _ (fun _ => rfl) (row0 c)) $$ H3; iintro H3
  iapply (wp_stage m c 3 1 0 (by decide) rfl _ (fun _ => rfl) (row1 c)) $$ H3; iintro H3
  iapply (wp_hand m K c _ (Fin.ext ((k0_dev6_eq c).trans (xp_val c).symm)) 3 0 rfl) $$ [H3 HO]
  · isplitr; · iexact HR
    isplitl [H3] <;> iassumption
  iintro ⟨H3, HO⟩
  rw [Oc_zero]
  iapply (wp_handed m K c 0 (due 5 (yp c) 4) (amt_r 0 (dsem 3 0) (by decide)) (above_due (n := 2) 5 (yp c) (by decide) 4)) $$ [H0 HO]
  · isplitr; · iexact HR
    isplitr; · iexact Hlev
    isplitl [H0] <;> iassumption
  iintro ⟨H0, HO⟩
  iapply (wp_sum m c 0 0 (by decide) _ (fun _ _ => rfl) (row0 c)) $$ H0; iintro H0
  iapply (wp_sum m c 0 1 (by decide) _ (fun _ _ => rfl) (row1 c)) $$ H0; iintro H0
  iapply wp_end
  rw [wp_bind]
  simp only [k0_part6_eq_skeleton]; unfold k0_part6_skel
  simp only [semSignalWord, semWaitWord, Prog.lift, Prog.bind_op, Prog.bind_ret, Prog.pure_eq_ret, wp_deviceId]
  iapply (wp_give m K c _ (Fin.ext ((k0_dev7_eq c).trans (yp_val c).symm)) 0 3 rfl) $$ [H0 HO]
  · isplitr; · iexact HR
    isplitl [H0] <;> iassumption
  iintro ⟨H0, HO⟩
  iapply (wp_keep m K c 0) $$ [H0]
  · isplitr; · iexact HR
    iexact H0
  iintro H0
  iapply (wp_handed m K c 1 (due 5 (yp c) 3) (amt_r 1 (dsem 3 1) (by decide)) (above_due (n := 2) 5 (yp c) (by decide) 3)) $$ [H1 HO]
  · isplitr; · iexact HR
    isplitr; · iexact Hlev
    isplitl [H1] <;> iassumption
  iintro ⟨H1, HO⟩
  iapply (wp_sum m c 1 0 (by decide) _ (fun _ _ => rfl) (row0 c)) $$ H1; iintro H1
  iapply wp_end
  rw [wp_bind]
  simp only [k0_part7_eq_skeleton]; unfold k0_part7_skel
  simp only [semSignalWord, semWaitWord, Prog.lift, Prog.bind_op, Prog.bind_ret, Prog.pure_eq_ret, wp_deviceId]
  iapply (wp_sum m c 1 1 (by decide) _ (fun _ _ => rfl) (row1 c)) $$ H1; iintro H1
  iapply (wp_give m K c _ (Fin.ext ((k0_dev8_eq c).trans (yp_val c).symm)) 1 2 rfl) $$ [H1 HO]
  · isplitr; · iexact HR
    isplitl [H1] <;> iassumption
  iintro ⟨H1, HO⟩
  iapply (wp_keep m K c 1) $$ [H1]
  · isplitr; · iexact HR
    iexact H1
  iintro H1
  iapply (wp_handed m K c 2 (due 5 (yp c) 2) (amt_r 2 (dsem 3 2) (by decide)) (above_due (n := 2) 5 (yp c) (by decide) 2)) $$ [H2 HO]
  · isplitr; · iexact HR
    isplitr; · iexact Hlev
    isplitl [H2] <;> iassumption
  iintro ⟨H2, HO⟩
  iapply wp_end
  rw [wp_bind]
  simp only [k0_part8_eq_skeleton]; unfold k0_part8_skel
  simp only [semSignalWord, semWaitWord, Prog.lift, Prog.bind_op, Prog.bind_ret, Prog.pure_eq_ret, wp_deviceId]
  iapply (wp_sum m c 2 0 (by decide) _ (fun _ _ => rfl) (row0 c)) $$ H2; iintro H2
  iapply (wp_sum m c 2 1 (by decide) _ (fun _ _ => rfl) (row1 c)) $$ H2; iintro H2
  iapply (wp_give m K c _ (Fin.ext ((k0_dev9_eq c).trans (yp_val c).symm)) 2 1 rfl) $$ [H2 HO]
  · isplitr; · iexact HR
    isplitl [H2] <;> iassumption
  iintro ⟨H2, HO⟩
  iapply (wp_keep m K c 2) $$ [H2]
  · isplitr; · iexact HR
    iexact H2
  iintro H2
  iapply wp_end
  rw [wp_bind]
  simp only [k0_part9_eq_skeleton]; unfold k0_part9_skel
  simp only [semSignalWord, semWaitWord, Prog.lift, Prog.bind_op, Prog.bind_ret, Prog.pure_eq_ret, wp_deviceId]
  iapply (wp_handed m K c 3 (due 5 (yp c) 1) (amt_r 3 (dsem 3 3) (by decide)) (above_due (n := 2) 5 (yp c) (by decide) 1)) $$ [H3 HO]
  · isplitr; · iexact HR
    isplitr; · iexact Hlev
    isplitl [H3] <;> iassumption
  iintro ⟨H3, HO⟩
  iapply (wp_sum m c 3 0 (by decide) _ (fun _ _ => rfl) (row0 c)) $$ H3; iintro H3
  iapply (wp_sum m c 3 1 (by decide) _ (fun _ _ => rfl) (row1 c)) $$ H3; iintro H3
  iapply (wp_give m K c _ (Fin.ext ((k0_dev10_eq c).trans (yp_val c).symm)) 3 0 rfl) $$ [H3 HO]
  · isplitr; · iexact HR
    isplitl [H3] <;> iassumption
  iintro ⟨H3, HO⟩
  iapply (wp_keep m K c 3) $$ [H3]
  · isplitr; · iexact HR
    iexact H3
  iintro H3
  iapply wp_end
  rw [show due 5 (yp c) 0 = 0 from rfl]; unfold S6
  icases H0 with ⟨D00, A20, D30, A10, A40, A50⟩
  icases H1 with ⟨D01, A21, D31, A11, A41, A51⟩
  icases H2 with ⟨D02, A22, D32, A12, A42, A52⟩
  icases H3 with ⟨D03, A23, D33, A13, A43, A53⟩
  rw [wp_bind]
  simp only [k0_part10_eq_skeleton]; unfold k0_part10_skel
  simp only [semSignalWord, semWaitWord, Prog.lift, Prog.bind_op, Prog.bind_ret, Prog.pure_eq_ret, wp_deviceId]
  iapply (wp_over m K 5 c 0 0 (amt_o c 0 (dsem 5 0) (by decide)) (above_zero _)) $$ [A50 HO]
  · isplitr; · iexact HR
    isplitr; · iexact Hlev
    isplitl [A50] <;> iassumption
  iintro ⟨A50, HO⟩
  iapply (wp_over m K 5 c 1 0 (amt_o c 1 (dsem 5 1) (by decide)) (above_zero _)) $$ [A51 HO]
  · isplitr; · iexact HR
    isplitr; · iexact Hlev
    isplitl [A51] <;> iassumption
  iintro ⟨A51, HO⟩
  iapply (wp_over m K 5 c 2 0 (amt_o c 2 (dsem 5 2) (by decide)) (above_zero _)) $$ [A52 HO]
  · isplitr; · iexact HR
    isplitr; · iexact Hlev
    isplitl [A52] <;> iassumption
  iintro ⟨A52, HO⟩
  iapply wp_end
  rw [wp_bind]
  simp only [k0_part11_eq_skeleton]; unfold k0_part11_skel
  simp only [semSignalWord, semWaitWord, Prog.lift, Prog.bind_op, Prog.bind_ret, Prog.pure_eq_ret, wp_deviceId]
  iapply (wp_over m K 5 c 3 0 (amt_o c 3 (dsem 5 3) (by decide)) (above_zero _)) $$ [A53 HO]
  · isplitr; · iexact HR
    isplitr; · iexact Hlev
    isplitl [A53] <;> iassumption
  iintro ⟨A53, HO⟩
  iapply (wp_over m K 1 c 0 0 (amt_o c 0 (dsem 1 0) (by decide)) (above_zero _)) $$ [A10 HO]
  · isplitr; · iexact HR
    isplitr; · iexact Hlev
    isplitl [A10] <;> iassumption
  iintro ⟨A10, HO⟩
  iapply (wp_over m K 2 c 0 0 (amt_s 0 (dsem 2 0) (by decide)) (above_zero _)) $$ [A20 HO]
  · isplitr; · iexact HR
    isplitr; · iexact Hlev
    isplitl [A20] <;> iassumption
  iintro ⟨A20, HO⟩
  iapply (wp_over m K 4 c 0 0 (amt_p 0 (dsem 4 0) (by decide)) (above_zero _)) $$ [A40 HO]
  · isplitr; · iexact HR
    isplitr; · iexact Hlev
    isplitl [A40] <;> iassumption
  iintro ⟨A40, HO⟩
  iapply (wp_over m K 1 c 1 0 (amt_o c 1 (dsem 1 1) (by decide)) (above_zero _)) $$ [A11 HO]
  · isplitr; · iexact HR
    isplitr; · iexact Hlev
    isplitl [A11] <;> iassumption
  iintro ⟨A11, HO⟩
  iapply (wp_over m K 2 c 1 0 (amt_s 1 (dsem 2 1) (by decide)) (above_zero _)) $$ [A21 HO]
  · isplitr; · iexact HR
    isplitr; · iexact Hlev
    isplitl [A21] <;> iassumption
  iintro ⟨A21, HO⟩
  iapply wp_end
  rw [wp_bind]
  simp only [k0_part12_eq_skeleton]; unfold k0_part12_skel
  simp only [semSignalWord, semWaitWord, Prog.lift, Prog.bind_op, Prog.bind_ret, Prog.pure_eq_ret, wp_deviceId]
  iapply (wp_over m K 4 c 1 0 (amt_p 1 (dsem 4 1) (by decide)) (above_zero _)) $$ [A41 HO]
  · isplitr; · iexact HR
    isplitr; · iexact Hlev
    isplitl [A41] <;> iassumption
  iintro ⟨A41, HO⟩
  iapply (wp_over m K 1 c 2 0 (amt_o c 2 (dsem 1 2) (by decide)) (above_zero _)) $$ [A12 HO]
  · isplitr; · iexact HR
    isplitr; · iexact Hlev
    isplitl [A12] <;> iassumption
  iintro ⟨A12, HO⟩
  iapply (wp_over m K 2 c 2 0 (amt_s 2 (dsem 2 2) (by decide)) (above_zero _)) $$ [A22 HO]
  · isplitr; · iexact HR
    isplitr; · iexact Hlev
    isplitl [A22] <;> iassumption
  iintro ⟨A22, HO⟩
  iapply (wp_over m K 4 c 2 0 (amt_p 2 (dsem 4 2) (by decide)) (above_zero _)) $$ [A42 HO]
  · isplitr; · iexact HR
    isplitr; · iexact Hlev
    isplitl [A42] <;> iassumption
  iintro ⟨A42, HO⟩
  iapply (wp_over m K 1 c 3 0 (amt_o c 3 (dsem 1 3) (by decide)) (above_zero _)) $$ [A13 HO]
  · isplitr; · iexact HR
    isplitr; · iexact Hlev
    isplitl [A13] <;> iassumption
  iintro ⟨A13, HO⟩
  iapply (wp_over m K 2 c 3 0 (amt_s 3 (dsem 2 3) (by decide)) (above_zero _)) $$ [A23 HO]
  · isplitr; · iexact HR
    isplitr; · iexact Hlev
    isplitl [A23] <;> iassumption
  iintro ⟨A23, HO⟩
  iapply wp_end
  iapply (wp_over m K 4 c 3 0 (amt_p 3 (dsem 4 3) (by decide)) (above_zero _)) $$ [A43 HO]
  · isplitr; · iexact HR
    isplitr; · iexact Hlev
    isplitl [A43] <;> iassumption
  iintro ⟨A43, HO⟩
  iapply wp_end
  iapply Hk
  rw [four]
  unfold S7
  isplitr [HzB HO]
  · isplitl [D00 A10 A20 D30 A40 A50]
    · isplitl [D00]; · iexact D00
      isplitl [A10]; · iexact A10
      isplitl [A20]; · iexact A20
      isplitl [D30]; · iexact D30
      isplitl [A40]; · iexact A40
      iexact A50
    isplitl [D01 A11 A21 D31 A41 A51]
    · isplitl [D01]; · iexact D01
      isplitl [A11]; · iexact A11
      isplitl [A21]; · iexact A21
      isplitl [D31]; · iexact D31
      isplitl [A41]; · iexact A41
      iexact A51
    isplitl [D02 A12 A22 D32 A42 A52]
    · isplitl [D02]; · iexact D02
      isplitl [A12]; · iexact A12
      isplitl [A22]; · iexact A22
      isplitl [D32]; · iexact D32
      isplitl [A42]; · iexact A42
      iexact A52
    isplitl [D03]; · iexact D03
    isplitl [A13]; · iexact A13
    isplitl [A23]; · iexact A23
    isplitl [D33]; · iexact D33
    isplitl [A43]; · iexact A43
    iexact A53
  isplitl [HzB] <;> iassumption

end Cert.KernelIdealProof
-- ==== Proof.KernelIdealLaunch.lean ====
/-
# What the launch deals out

The launch mints the round of every cell, with the right to pay it, on the device that owns the cell. Here the
invariants are allocated, every right goes to the device that pays, and the credit every device starts with is counted.
-/
module

public import proofs.«01_k».proof.Proof.KernelIdealSteps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells, all of them -/

theorem csem_injective : Function.Injective csem := by decide
theorem kcell_injective : Function.Injective (kcell : Dev nD × CI → GSem nD τ sig) := by
  rintro ⟨c, k⟩ ⟨c', k'⟩ h
  have hc : c = c' := congrArg (fun g : GSem nD τ sig => g.1.1) h
  have hk : k = k' := csem_injective (congrArg Prod.snd h)
  rw [hc, hk]
theorem dcell_iff {j j' : Fin 6} {c c' : Dev nD} {k k' : Fin 4} : dcell j c k = dcell j' c' k' ↔ j = j' ∧ c = c' ∧ k = k' := by
  constructor
  · intro h
    have h' := kcell_injective (a₁ := (c, .inr (j, k))) (a₂ := (c', .inr (j', k'))) h
    cases h'; exact ⟨rfl, rfl, rfl⟩
  · rintro ⟨rfl, rfl, rfl⟩; rfl
theorem bar_iff {c c' : Dev nD} : barCell c = barCell c' ↔ c = c' :=
  ⟨fun h => congrArg (fun g : GSem nD τ sig => g.1.1) h, fun h => h ▸ rfl⟩
theorem dcell_ne_bar (j : Fin 6) (c c' : Dev nD) (k : Fin 4) : dcell j c k ≠ barCell c' := fun h => by
  cases congrArg Prod.snd h

/-- A device's cells: the barrier, and the others. -/
theorem each_cell (P : CI → sProp 𝕄) : bigSep Finset.univ P = iprop(P (.inl ()) ∗ bigSep Finset.univ fun jk => P (.inr jk)) := by
  rw [bigSep_univ_sum, show (Finset.univ : Finset Unit) = {()} from rfl, bigSep_singleton]; rfl

def allCells : Finset (GSem nD τ sig) := Finset.univ.map ⟨kcell, kcell_injective⟩

/-- A device's own rights as minted: its barrier's two, and one for each transfer cell. -/
abbrev tokOf : Dev nD × (Bool ⊕ (Fin 6 × Fin 4)) → GSem nD τ sig × ℕ × Bool
  | (c, .inl b) => (barCell c, 0, b)
  | (c, .inr jk) => (dcell jk.1 c jk.2, 0, false)
theorem tokOf_injective : Function.Injective tokOf := by
  rintro ⟨c, b | ⟨j, k⟩⟩ ⟨c', b' | ⟨j', k'⟩⟩ h
  · cases bar_iff.mp (congrArg Prod.fst h); cases congrArg (fun x => x.2.2) h; rfl
  · exact absurd (congrArg Prod.fst h).symm (dcell_ne_bar _ _ _ _)
  · exact absurd (congrArg Prod.fst h) (dcell_ne_bar _ _ _ _)
  · obtain ⟨rfl, rfl, rfl⟩ := dcell_iff.mp (congrArg Prod.fst h); rfl
def allToks : Finset (GSem nD τ sig × ℕ × Bool) := Finset.univ.map ⟨tokOf, tokOf_injective⟩

def u₀ : UU := (initOf (Pipeline.cells cfgs cellOf_inj) (Pipeline.launchToks cfgs cellOf_inj), initOf allCells allToks)

/-! ## Who holds what -/

/-- The device whose cell of array `j` device `c` pays. -/
def pt (j : Fin 6) (c : Dev nD) : Dev nD := if j = 3 then xp c else if j = 5 then yp c else c
theorem pt_pt (j : Fin 6) (c : Dev nD) : pt j (pt j c) = c := by
  unfold pt
  by_cases h3 : j = 3
  · rw [if_pos h3, if_pos h3, xp_xp]
  · by_cases h5 : j = 5
    · rw [if_neg h3, if_neg h3, if_pos h5, if_pos h5, yp_yp]
    · rw [if_neg h3, if_neg h3, if_neg h5, if_neg h5]
def ptE (j : Fin 6) : Dev nD ≃ Dev nD := ⟨pt j, pt j, pt_pt j, pt_pt j⟩
def xE : Dev nD ≃ Dev nD := ⟨xp, xp, xp_xp, xp_xp⟩
def yE : Dev nD ≃ Dev nD := ⟨yp, yp, yp_yp, yp_yp⟩

/-- The rights to pay the device's own cells, as minted, -/
def ownToks (c : Dev nD) : sProp 𝕄 :=
  iprop(dutyTok ER (barCell c) 0 false ∗ dutyTok ER (barCell c) 0 true ∗ bigSep Finset.univ fun jk : Fin 6 × Fin 4 => tk jk.1 c jk.2)
/-- and the rights it uses. -/
def payToks (c : Dev nD) : sProp 𝕄 :=
  iprop(dutyTok ER (barCell (xp c)) 0 false ∗ dutyTok ER (barCell (yp c)) 0 true ∗ bigSep Finset.univ fun jk : Fin 6 × Fin 4 => tk jk.1 (pt jk.1 c) jk.2)
/-- Its place in each round of its own. -/
def posns (c : Dev nD) : sProp 𝕄 := bigSep Finset.univ fun ci : CI => atPos ER (kcell (c, ci)) 0 ∅ 0

/-- What the launch mints for a device, -/
def G (c : Dev nD) : sProp 𝕄 :=
  iprop((bigSep Finset.univ fun ci : CI => roundState ER (Rd m) (kcell (c, ci)) 0)
    ∗ (bigSep Finset.univ fun ci : CI => iprop(atPos ER (kcell (c, ci)) 0 ∅ 0 ∗ reached ER (kcell (c, ci)) 0)) ∗ ownToks c)
/-- and what it starts with. -/
def G' (c : Dev nD) : sProp 𝕄 := iprop(∃ K, recs m K ∗ posns c ∗ payToks c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun ci : CI => Φ (kcell (c, ci)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]
    exact bigSep_congr fun c _ => by
      unfold ownToks
      rw [bigSep_univ_sum, bigSep_univ_eq_bigSepL [false, true] (by decide) (by decide), bigSepL_cons_cons, bigSepL_singleton]
      exact equiv_iff.mp ⟨BI.sep_assoc, BI.sep_assoc'⟩
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems_all (c : Dev nD) :
    iprop(Pipeline.ownSems0 (Ix := Unit) (Name := ℕ) (U := UU) (Lvl := ℕ) (Val := Elt F) (τ := τ) osem c ∗ unscopedSems0 c)
      ⊢ (bigSep Finset.univ fun ci : CI => semVal (kcell (c, ci)) 0 : sProp 𝕄) := by
  rw [each_cell, unscopedSems0_eq]; unfold Pipeline.ownSems0
  iintro ⟨HD, HB⟩
  isplitl [HB]
  · iexact HB
  · iexact HD

/-- The invariants of a device's cells, allocated. -/
theorem alloc_one (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun ci => iprop(∃ κ : ℕ, cellInv ER (Rd m) κ (kcell (c, ci))))
          ∗ (bigSep Finset.univ fun ci => iprop(atPos ER (kcell (c, ci)) 0 ∅ 0 ∗ reached ER (kcell (c, ci)) 0)) ∗ ownToks c) := by
  unfold G
  iintro ⟨Hos, Hus, Hst, Hat, Htok⟩
  ihave Hv := (sems_all (F := F) c) $$ [Hos Hus]
  · isplitl [Hos] <;> iassumption
  imod (show iprop((bigSep Finset.univ fun ci : CI => semVal (kcell (c, ci)) 0) ∗ bigSep Finset.univ fun ci : CI => roundState ER (Rd m) (kcell (c, ci)) 0)
      ⊢ (|={Set.univ}=> bigSep Finset.univ fun ci => iprop(∃ κ : ℕ, cellInv ER (Rd m) κ (kcell (c, ci))) : sProp 𝕄) from by
        rw [← bigSep_sep']
        exact (bigSep_mono fun ci _ => (Rounds.body_intro ER (Rd m) (kcell (c, ci))).trans inv_alloc).trans (bigSep_fupd _ _)) $$ [Hv Hst] with Hinv
  · isplitl [Hv] <;> iassumption
  imodintro
  isplitl [Hinv]; · iexact Hinv
  isplitl [Hat] <;> iassumption

theorem swap {A B : Type} [Fintype A] [Fintype B] (P : A → B → sProp 𝕄) :
    (bigSep Finset.univ fun a => bigSep Finset.univ fun b => P a b) = bigSep Finset.univ fun b => bigSep Finset.univ fun a => P a b := by
  rw [← bigSep_univ_prod (fun p : A × B => P p.1 p.2), bigSep_univ_equiv (Equiv.prodComm B A), bigSep_univ_prod]; rfl

/-- Every right to the device that uses it. -/
theorem toks_dealt : (bigSep Finset.univ fun c : Dev nD => (ownToks c : sProp 𝕄)) ⊢ bigSep Finset.univ fun c : Dev nD => payToks c := by
  have hD : (bigSep Finset.univ fun c : Dev nD => bigSep Finset.univ fun jk : Fin 6 × Fin 4 => (tk jk.1 c jk.2 : sProp 𝕄))
      = bigSep Finset.univ fun c : Dev nD => bigSep Finset.univ fun jk : Fin 6 × Fin 4 => tk jk.1 (pt jk.1 c) jk.2 := by
    rw [swap, swap (A := Dev nD)]
    exact bigSep_congr fun jk _ => bigSep_univ_equiv (ptE jk.1) (fun c : Dev nD => (tk jk.1 c jk.2 : sProp 𝕄))
  unfold ownToks payToks
  rw [bigSep_sep', bigSep_sep', bigSep_sep', bigSep_sep',
    bigSep_univ_equiv xE (fun c : Dev nD => (dutyTok ER (barCell c) 0 false : sProp 𝕄)),
    bigSep_univ_equiv yE (fun c : Dev nD => (dutyTok ER (barCell c) 0 true : sProp 𝕄)), hD]
  exact Entails.refl _

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun ci => iprop(∃ κ : ℕ, cellInv ER (Rd m) κ (kcell (c, ci))))
          ∗ (bigSep Finset.univ fun ci => iprop(atPos ER (kcell (c, ci)) 0 ∅ 0 ∗ reached ER (kcell (c, ci)) 0)) ∗ ownToks c) : sProp 𝕄)
      ⊢ bigSep Finset.univ (G' m) := by
  rw [bigSep_sep', bigSep_sep', ← bigSep_univ_prod (fun p : Dev nD × CI => iprop(∃ κ : ℕ, cellInv ER (Rd m) κ (kcell p))),
    bigSep_congr (s := Finset.univ) (fun (c : Dev nD) _ => bigSep_sep' Finset.univ (fun ci : CI => (atPos ER (kcell (c, ci)) 0 ∅ 0 : sProp 𝕄)) (fun ci => reached ER (kcell (c, ci)) 0)),
    bigSep_sep', ← bigSep_univ_prod (fun p : Dev nD × CI => (reached ER (kcell p) 0 : sProp 𝕄))]
  iintro ⟨HI, ⟨Hat, HR⟩, Htok⟩
  ihave HK := (BI.bigSep_exists_pi Finset.univ (fun (p : Dev nD × CI) (κ : ℕ) => (cellInv ER (Rd m) κ (kcell p) : sProp 𝕄))) $$ HI
  icases HK with ⟨%K, HI⟩
  ihave Hp := (toks_dealt (F := F)) $$ Htok
  iapply (with_persistent (R := recs m K) (Φ := fun c : Dev nD => iprop(posns c ∗ payToks c)) fun c _ =>
    show _ ⊢ G' m c from by unfold G'; iintro ⟨Hr, Hl⟩; iexists K; isplitl [Hr] <;> iassumption)
  isplitl [HI HR]
  · unfold recs; rw [bigSep_sep']; isplitl [HI] <;> iassumption
  · rw [bigSep_sep']; isplitl [Hat]
    · iexact Hat
    · iexact Hp

/-- The whole deal, all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc_one m c).trans (bigSep_fupd _ _)).trans (BI.fupd_mono (regroup m))

/-! ## The credit at launch -/

theorem due_at (j j' : Fin 6) (e c : Dev nD) (k : Fin 4) : due j e 4 (dcell j' c k) () = if j' = j ∧ c = e then N2 else 0 := by
  simp only [due, Pi.add_apply, Finsupp.add_apply, tallyAt_apply, dcell_iff, and_true, Pi.zero_apply, Finsupp.zero_apply]
  by_cases h : j' = j ∧ c = e
  · obtain ⟨rfl, rfl⟩ := h
    fin_cases k <;> simp
  · rw [if_neg h]
    simp only [← and_assoc, h, false_and, if_false]
theorem due_at_bar (j : Fin 6) (e c : Dev nD) : ∀ n, due j e n (barCell c) () = 0
  | 0 => rfl
  | n + 1 => by
    show due j e n (barCell c) () + tallyAt (dcell j e _) () N2 (barCell c) () = 0
    rw [due_at_bar j e c n, tallyAt_ne_cell (dcell_ne_bar _ _ _ _).symm]; rfl

theorem x_iff (c d : Dev nD) : c = xp d ↔ d = xp c := ⟨fun h => by rw [h, xp_xp], fun h => by rw [h, xp_xp]⟩
theorem y_iff (c d : Dev nD) : c = yp d ↔ d = yp c := ⟨fun h => by rw [h, yp_yp], fun h => by rw [h, yp_yp]⟩

theorem O₀_at (d c : Dev nD) (j : Fin 6) (k : Fin 4) :
    O₀ d (dcell j c k) () = (if j = 5 ∧ d = yp c then N2 else 0) + (if j = 3 ∧ d = xp c then N2 else 0) := by
  unfold O₀ O₁ Oc
  rw [Pi.add_apply, Pi.add_apply, Pi.add_apply, tallyAt_ne_cell (dcell_ne_bar _ _ _ _), tallyAt_ne_cell (dcell_ne_bar _ _ _ _), add_zero, add_zero,
    Finsupp.add_apply, due_at, due_at]
  simp only [x_iff c d, y_iff c d]
theorem O₀_at_bar (d c : Dev nD) : O₀ d (barCell c) () = (if d = yp c then 1 else 0) + (if d = xp c then 1 else 0) := by
  unfold O₀ O₁ Oc
  simp only [Pi.add_apply, Finsupp.add_apply, due_at_bar, tallyAt_apply, bar_iff, and_true, zero_add, x_iff c d, y_iff c d]

theorem credit_at (c : Dev nD) (j : Fin 6) (k : Fin 4) (hj : j = 3 ∨ j = 5) :
    tallyOn (dcell j c k) (launchCredit (Pipeline.owing O₀) 0 (dcell j c k)) = (tallyAt (dcell j c k) () (credN j.val) : CellTallies nD τ sig Unit) := by
  unfold tallyAt; refine congrArg _ (Finsupp.ext fun u => ?_); cases u
  rw [Pipeline.launchCredit_owing, Finsupp.single_eq_same, Finset.sum_congr rfl fun d _ => O₀_at d c j k, Finset.sum_add_distrib]
  rcases hj with rfl | rfl
  · rw [credN_eq (by decide)]; simp
  · rw [credN_eq (by decide)]; simp
theorem credit_at_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => O₀_at_bar d c, Finset.sum_add_distrib]
  simp

/-- Six arrays of four, an array at a time. -/
theorem six (P : Fin 6 × Fin 4 → sProp 𝕄) : bigSep Finset.univ P
    = iprop((bigSep Finset.univ fun k => P (0, k)) ∗ (bigSep Finset.univ fun k => P (1, k)) ∗ (bigSep Finset.univ fun k => P (2, k))
      ∗ (bigSep Finset.univ fun k => P (3, k)) ∗ (bigSep Finset.univ fun k => P (4, k)) ∗ (bigSep Finset.univ fun k => P (5, k))) := by
  rw [bigSep_univ_prod, bigSep_univ_eq_bigSepL [0, 1, 2, 3, 4, 5] (by decide) (by decide)]; rfl

/-- Of all its semaphores, a device's cells. -/
theorem of_cells (P : SemLoc sig → sProp 𝕄) : bigSep Finset.univ P ⊢ (iprop(P (.reg barS) ∗ bigSep Finset.univ fun jk => P (osem jk)) : sProp 𝕄) := by
  refine (show bigSep Finset.univ P ⊢ bigSep (Finset.univ.map ⟨csem, csem_injective⟩) P from bigSep_subset (Finset.subset_univ _)).trans ?_
  rw [bigSep_map, each_cell]; exact Entails.refl _

/-- What a device may count on from the start: two signals, and everything its two neighbours send it. -/
def cr (c : Dev nD) (j : Fin 6) (k : Fin 4) : sProp 𝕄 := cred (tallyAt (dcell j c k) () (credN j.val))
theorem creds (c : Dev nD) :
    (Pipeline.launchCred O₀ c : sProp 𝕄)
      ⊢ iprop(cred (tallyAt (barCell c) () 2) ∗ (bigSep Finset.univ fun k => cr c 3 k) ∗ (bigSep Finset.univ fun k => cr c 5 k)) := by
  unfold Pipeline.launchCred cr
  iintro H
  ihave H2 := (of_cells (F := F) _) $$ H
  icases H2 with ⟨HB, HD⟩
  ihave H3 := (Entails.of_eq (six _)) $$ HD
  icases H3 with ⟨-, -, -, H3, -, H5⟩
  isplitl [HB]
  · rw [← credit_at_bar]; iexact HB
  isplitl [H3]
  · rw [← bigSep_congr (s := Finset.univ) fun (k : Fin 4) _ => congrArg (fun x => (cred x : sProp 𝕄)) (credit_at c 3 k (Or.inl rfl))]; iexact H3
  · rw [← bigSep_congr (s := Finset.univ) fun (k : Fin 4) _ => congrArg (fun x => (cred x : sProp 𝕄)) (credit_at c 5 k (Or.inr rfl))]; iexact H5

end Cert.KernelIdealProof
-- ==== Proof.KernelIdealRun.lean ====
/-
# The run

Every buffer is cut into its chunks at the start and put together at the end, and the body runs in between: from any
memory the program ends with the argument as it was, the result at `oF`, and every counter back at zero.
-/
module

public import proofs.«01_k».proof.Proof.KernelIdealBody
public import proofs.«01_k».proof.Proof.KernelIdealLaunch

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Buffers and their chunks -/

section Pieces
variable {I B : Type} [Fintype I] [DecidableEq I] [Fintype B] (S : B → Finset I) (κ : I → ℕ) (ν : B → ℕ)

/-- Sets told apart by a number are disjoint, -/
theorem apart (hν : Function.Injective ν) (hS : ∀ b i, i ∈ S b ↔ κ i = ν b) : ∀ b b', b ≠ b' → Disjoint (S b) (S b') := fun b b' hb =>
  Finset.disjoint_left.mpr fun i hi hi' => hb (hν (((hS b i).mp hi).symm.trans ((hS b' i).mp hi')))
/-- and cover everything if every number occurs. -/
theorem cover (hS : ∀ b i, i ∈ S b ↔ κ i = ν b) (hκ : ∀ i, ∃ b, κ i = ν b) : Finset.univ.biUnion S = Finset.univ :=
  Finset.eq_univ_of_forall fun i => Finset.mem_biUnion.mpr ((hκ i).imp fun b hb => ⟨Finset.mem_univ b, (hS b i).mpr hb⟩)

end Pieces

/-- So a buffer held whole is held piece by piece. -/
theorem whole_pieces {ℓ : Loc nD τ sig} {B : Type} [Fintype B] (S : B → Finset (Idx ℓ)) (hd : ∀ b b', b ≠ b' → Disjoint (S b) (S b'))
    (hc : Finset.univ.biUnion S = Finset.univ) {q : PosShare TreeShare} (f : Buf (Elt F) ℓ) :
    (ℓ ↦{q} f : sProp 𝕄) = bigSep Finset.univ fun b => ℓ ↦[S b]{q} f := by
  rw [← hc]; exact pointsTo_biUnion Finset.univ S fun b _ b' _ h => hd b b' h

theorem row_some {n : ℕ} (i : (⟨2, ![256, n]⟩ : Shape).Idx) : ∃ k : Fin 4, (i 0 : ℕ) / 64 = k.val := by
  have h : (i 0 : ℕ) < 256 := (i 0).isLt
  exact ⟨⟨(i 0 : ℕ) / 64, by omega⟩, rfl⟩

theorem v_whole (c : Dev nD) (f) : ((((c : Thread nD τ).loc cc0_scratch0) ↦{fullShare} f) : sProp 𝕄) = bigSep Finset.univ fun k => vP c k f :=
  whole_pieces (ℓ := (c : Thread nD τ).loc cc0_scratch0) (fun k => (vC k).view.set) (apart _ (fun i : S256x1024.Idx => (i 0 : ℕ) / 64) Fin.val Fin.val_injective mem_vC)
    (cover _ (fun i : S256x1024.Idx => (i 0 : ℕ) / 64) Fin.val mem_vC row_some) f
theorem s_whole (c : Dev nD) (f) : ((((c : Thread nD τ).loc cc0_scratch1) ↦{fullShare} f) : sProp 𝕄) = bigSep Finset.univ fun k => sP c k f :=
  whole_pieces (ℓ := (c : Thread nD τ).loc cc0_scratch1) (fun k => (sC k).view.set) (apart _ (fun i : S256x512.Idx => (i 0 : ℕ) / 64) Fin.val Fin.val_injective mem_sC)
    (cover _ (fun i : S256x512.Idx => (i 0 : ℕ) / 64) Fin.val mem_sC row_some) f
theorem r_whole (c : Dev nD) (f) : ((((c : Thread nD τ).loc cc0_scratch2) ↦{fullShare} f) : sProp 𝕄) = bigSep Finset.univ fun k => rP c k f :=
  whole_pieces (ℓ := (c : Thread nD τ).loc cc0_scratch2) (fun k => (rC k).view.set) (apart _ (fun i : S256x512.Idx => (i 0 : ℕ) / 64) Fin.val Fin.val_injective mem_rC)
    (cover _ (fun i : S256x512.Idx => (i 0 : ℕ) / 64) Fin.val mem_rC row_some) f
theorem p_whole (c : Dev nD) (f) : ((((c : Thread nD τ).loc cc0_scratch3) ↦{fullShare} f) : sProp 𝕄) = bigSep Finset.univ fun k => pP c k fullShare f :=
  whole_pieces (ℓ := (c : Thread nD τ).loc cc0_scratch3) (fun k => (pC k).view.set) (apart _ (fun i : S256x512.Idx => (i 0 : ℕ) / 64) Fin.val Fin.val_injective mem_pC)
    (cover _ (fun i : S256x512.Idx => (i 0 : ℕ) / 64) Fin.val mem_pC row_some) f

/-- The two halves of the rows: device `c`'s own, and its `y` peer's. -/
def side (c : Dev nD) (s : Fin 2) : Dev nD := if s = 0 then c else yp c
def rowNo (c : Dev nD) (p : Fin 2 × Fin 4) : ℕ := 4 * ((side c p.1).val % 2) + p.2.val
theorem side_mod (c : Dev nD) (s : Fin 2) : (side c s).val % 2 = if s = 0 then c.val % 2 else 1 - c.val % 2 := by
  unfold side; split
  · rfl
  · exact yp_mod c
theorem rowNo_injective (c : Dev nD) : Function.Injective (rowNo c) := by
  rintro ⟨s, k⟩ ⟨s', k'⟩ h
  unfold rowNo at h
  simp only [side_mod] at h
  have := k.isLt; have := k'.isLt
  refine Prod.ext (Fin.ext ?_) (Fin.ext ?_)
  · show s.val = s'.val
    have := s.isLt; have := s'.isLt
    split at h <;> split at h <;> omega
  · show k.val = k'.val
    split at h <;> split at h <;> omega
theorem rowNo_some (c : Dev nD) (n : ℕ) (hn : n < 512) : ∃ p, n / 64 = rowNo c p := by
  refine ⟨(if n / 256 = c.val % 2 then 0 else 1, ⟨n / 64 % 4, Nat.mod_lt _ (by decide)⟩), ?_⟩
  unfold rowNo
  rw [side_mod]
  show _ = 4 * _ + n / 64 % 4
  by_cases h : n / 256 = c.val % 2
  · rw [if_pos h, if_pos rfl]; omega
  · rw [if_neg h, if_neg (fun h1 : (1 : Fin 2) = 0 => absurd h1 (by decide))]; omega

theorem two (P : Fin 2 × Fin 4 → sProp 𝕄) : bigSep Finset.univ P
    = iprop((bigSep Finset.univ fun k => P (0, k)) ∗ (bigSep Finset.univ fun k => P (1, k))) := by
  rw [bigSep_univ_prod, bigSep_univ_eq_bigSepL [0, 1] (by decide) (by decide)]; rfl

theorem o_whole (c : Dev nD) (f) : ((((c : Thread nD τ).loc main_v1) ↦{fullShare} f) : sProp 𝕄)
    = iprop((bigSep Finset.univ fun k => oP c k c f) ∗ (bigSep Finset.univ fun k => oP c k (yp c) f)) :=
  (whole_pieces (ℓ := (c : Thread nD τ).loc main_v1) (fun p : Fin 2 × Fin 4 => (oC (side c p.1) p.2).view.set)
    (apart _ (fun i : S512x512.Idx => (i 0 : ℕ) / 64) (rowNo c) (rowNo_injective c) fun p i => mem_oC _ _ i)
    (cover _ (fun i : S512x512.Idx => (i 0 : ℕ) / 64) (rowNo c) (fun p i => mem_oC _ _ i) fun i => rowNo_some c _ (i 0).isLt) f).trans (two _)
/-- Of the argument, the rows the device fetches. -/
theorem a_half (c : Dev nD) (q) : ((((c : Thread nD τ).loc main_arg0) ↦{q} xF m c) : sProp 𝕄) ⊢ bigSep Finset.univ fun k => aP m c k q := by
  refine (Entails.of_eq ((whole_pieces (ℓ := (c : Thread nD τ).loc main_arg0) (fun p : Fin 2 × Fin 4 => (aC (side c p.1) p.2).view.set)
    (apart _ (fun i : S1x512x1024.Idx => (i 1 : ℕ) / 64) (rowNo c) (rowNo_injective c) fun p i => mem_aC _ _ i)
    (cover _ (fun i : S1x512x1024.Idx => (i 1 : ℕ) / 64) (rowNo c) (fun p i => mem_aC _ _ i) fun i => rowNo_some c _ (i 1).isLt) (xF m c)).trans (two _))).trans ?_
  exact sep_elim_left

/-- A family held at one contents is held at some. -/
theorem some_each {C : Type} (P : Fin 4 → C → sProp 𝕄) (f : C) : (bigSep Finset.univ fun k => P k f) ⊢ bigSep Finset.univ fun k => iprop(∃ f, P k f) :=
  bigSep_mono fun k _ => exists_intro (Φ := fun f => P k f) f

/-! ## Before and after the body -/

/-- What a device brings to the body beside its scratch buffers. -/
def start (c : Dev nD) : sProp 𝕄 :=
  iprop(G' m c ∗ levAts L lv ∗ (cred (tallyAt (barCell c) () 2) ∗ (bigSep Finset.univ fun k => cr c 3 k) ∗ (bigSep Finset.univ fun k => cr c 5 k))
    ∗ (bigSep Finset.univ fun k => aP m c k fullShare.left) ∗ ∃ f, ((c : Thread nD τ).loc main_v1) ↦{fullShare} f)
/-- Half a share of the argument, kept aside to read it at the end. -/
def aside (c : Dev nD) : sProp 𝕄 := ((c : Thread nD τ).loc main_arg0) ↦{fullShare.right} xF m c

def Φ₀ (c : Dev nD) : sProp 𝕄 := iprop(∃ K, recs m K ∗ levAts L lv ∗ (S0 m c 0 ∗ S0 m c 1 ∗ S0 m c 2 ∗ S0 m c 3) ∗ bar c)
def Φ₁ (c : Dev nD) : sProp 𝕄 := iprop((bigSep Finset.univ fun k => S7 m c k) ∗ semVal (barCell c) 0)

def dats (_ : Fin 1) (c : Dev nD) : Dat τ (Elt F) Unit ℕ UU ℕ cfg0 c where
  A w := w.elim0
  after w := w.elim0
  Φ t := match t with
    | ⟨0, _⟩ => Φ₀ m c
    | ⟨_ + 1, _⟩ => Φ₁ m c
  q w := w.elim0
  owed t := match t with
    | ⟨0, _⟩ => O₀ c
    | ⟨_ + 1, _⟩ => 0

theorem no_windows (P : Fin cfg0.W → sProp 𝕄) : bigSep Finset.univ P = (BI.emp : sProp 𝕄) := rfl

theorem body_obligation (c : Dev nD) : BodyObligation (dats (F := F) m 0 c) (defs₀ (F := F)) 𝒱₀ () Set.univ := fun t => by
  rw [fin_N0 t]
  rw [no_windows, no_windows]
  show iprop(Φ₀ m c ∗ (dats (F := F) m 0 c).owesAt () t0_0.castSucc ∗ BI.emp)
    ⊢ wp frame (wpE (defs₀ (F := F)) 𝒱₀ (c : Thread nD τ) none) Set.univ (bodyAt0 t0_0) fun _ =>
        iprop(Φ₁ m c ∗ (dats (F := F) m 0 c).owesAt () t0_0.succ ∗ BI.emp)
  unfold Φ₀ Φ₁ Dat.owesAt Pipeline.owesWithin
  iintro ⟨⟨%K, Hr, Hl, HS, HB⟩, ⟨%W, -, HO⟩, -⟩
  iapply (sound_body m K c _)
  unfold bodyPre bodyPost own
  isplitr []
  · isplitl [Hr]; · iexact Hr
    isplitl [Hl]; · iexact Hl
    isplitl [HS]; · iexact HS
    isplitl [HB]; · iexact HB
    iexists W; iexact HO
  · iintro ⟨H7, HzB, ⟨%W', HO⟩⟩
    isplitl [H7 HzB]
    · isplitl [H7] <;> iassumption
    isplitl
    · iexists W'; isplitr
      · ipureintro; exact fun _ _ => Or.inl trivial
      · iexact HO
    · iempintro

/-- All four chunks at the start, resource by resource. -/
theorem S0_all (c : Dev nD) : (iprop(S0 m c 0 ∗ S0 m c 1 ∗ S0 m c 2 ∗ S0 m c 3) : sProp 𝕄)
    = iprop((bigSep Finset.univ fun k => aP m c k fullShare.left) ∗ (bigSep Finset.univ fun k => iprop(∃ f, vP c k f))
      ∗ (bigSep Finset.univ fun k => tk 0 c k) ∗ (bigSep Finset.univ fun k => po 0 c k) ∗ (bigSep Finset.univ fun k => iprop(∃ f, sP c k f))
      ∗ (bigSep Finset.univ fun k => tk 2 c k) ∗ (bigSep Finset.univ fun k => tk 3 (xp c) k) ∗ (bigSep Finset.univ fun k => po 2 c k)
      ∗ ((bigSep Finset.univ fun k => po 3 c k) ∗ (bigSep Finset.univ fun k => cr c 3 k))
      ∗ (bigSep Finset.univ fun k => iprop(∃ f, pP c k fullShare f)) ∗ (bigSep Finset.univ fun k => iprop(∃ f, oP c k c f))
      ∗ (bigSep Finset.univ fun k => tk 1 c k) ∗ (bigSep Finset.univ fun k => tk 4 c k) ∗ (bigSep Finset.univ fun k => tk 5 (yp c) k)
      ∗ (bigSep Finset.univ fun k => po 1 c k) ∗ (bigSep Finset.univ fun k => po 4 c k)
      ∗ (bigSep Finset.univ fun k => po 5 c k) ∗ (bigSep Finset.univ fun k => cr c 5 k)) := by
  rw [← four (fun k => S0 m c k)]
  unfold S0 mid rest ac cr
  simp only [bigSep_sep']

/-- All four chunks at the end, likewise. -/
theorem S7_all (c : Dev nD) : (bigSep Finset.univ fun k => (S7 m c k : sProp 𝕄))
    = iprop(((bigSep Finset.univ fun k => semVal (dcell 0 c k) 0) ∗ bigSep Finset.univ fun k => vP c k (vF m c))
      ∗ ((bigSep Finset.univ fun k => semVal (dcell 1 c k) 0) ∗ (bigSep Finset.univ fun k => oP c k c (oF m c)) ∗ bigSep Finset.univ fun k => pP c k fullShare.right (pF m c))
      ∗ ((bigSep Finset.univ fun k => semVal (dcell 2 c k) 0) ∗ bigSep Finset.univ fun k => sP c k (sF m c))
      ∗ ((bigSep Finset.univ fun k => semVal (dcell 3 c k) 0) ∗ bigSep Finset.univ fun k => rP c k (sF m (xp c)))
      ∗ ((bigSep Finset.univ fun k => semVal (dcell 4 c k) 0) ∗ bigSep Finset.univ fun k => pP c k fullShare.left (pF m c))
      ∗ ((bigSep Finset.univ fun k => semVal (dcell 5 c k) 0) ∗ bigSep Finset.univ fun k => oP c k (yp c) (oF m c))) := by
  unfold S7 dn
  simp only [bigSep_sep']
  simp only [← bigSep_sep' Finset.univ (fun k => oP c k c (oF m c)) (fun k => pP c k fullShare.right (pF m c))]
  rfl

theorem p_join (c : Dev nD) (f) : iprop((bigSep Finset.univ fun k => pP c k fullShare.left f) ∗ bigSep Finset.univ fun k => pP c k fullShare.right f)
    ⊢ (bigSep Finset.univ fun k => pP c k fullShare f : sProp 𝕄) := by
  rw [← bigSep_sep']
  exact bigSep_mono fun k _ => (pointsTo_share (PosShare.mem_left_op_right fullShare)).2

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ start G' posns payToks bar
  rw [S0_all, each_cell, six, six]
  iintro ⟨⟨⟨%K, Hr, ⟨aB, a0, a1, a2, a3, a4, a5⟩, tX, tY, t0, t1, t2, t3, t4, t5⟩, Hl, ⟨cB, c3, c5⟩, Ha, ⟨%fo, Ho⟩⟩, -, ⟨%fv, Hv⟩, ⟨%fs, Hs⟩, ⟨%fr, Hrb⟩, ⟨%fp, Hp⟩⟩
  ihave Hv1 := ((Entails.of_eq (v_whole (F := F) c fv)).trans (some_each (fun k f => vP c k f) fv)) $$ Hv
  ihave Hs1 := ((Entails.of_eq (s_whole (F := F) c fs)).trans (some_each (fun k f => sP c k f) fs)) $$ Hs
  ihave Hp1 := ((Entails.of_eq (p_whole (F := F) c fp)).trans (some_each (fun k f => pP c k fullShare f) fp)) $$ Hp
  ihave Hr1 := (Entails.of_eq (r_whole (F := F) c fr)) $$ Hrb
  ihave Ho1 := (Entails.of_eq (o_whole (F := F) c fo)) $$ Ho
  icases Ho1 with ⟨Hoc, Hoy⟩
  ihave Hoc1 := (some_each (fun k f => oP (F := F) c k c f) fo) $$ Hoc
  iexists K
  isplitl [Hr]; · iexact Hr
  isplitl [Hl]; · iexact Hl
  isplitr [Hr1 Hoy tX tY aB cB]
  · isplitl [Ha]; · iexact Ha
    isplitl [Hv1]; · iexact Hv1
    isplitl [t0]; · iexact t0
    isplitl [a0]; · iexact a0
    isplitl [Hs1]; · iexact Hs1
    isplitl [t2]; · iexact t2
    isplitl [t3]; · iexact t3
    isplitl [a2]; · iexact a2
    isplitl [a3 c3]
    · isplitl [a3]; · iexact a3
      iexact c3
    isplitl [Hp1]; · iexact Hp1
    isplitl [Hoc1]; · iexact Hoc1
    isplitl [t1]; · iexact t1
    isplitl [t4]; · iexact t4
    isplitl [t5]; · iexact t5
    isplitl [a1]; · iexact a1
    isplitl [a4]; · iexact a4
    isplitl [a5]; · iexact a5
    iexact c5
  · unfold barX barY
    rw [xp_xp, yp_yp]
    isplitl [Hr1]; · iexists fr; iexact Hr1
    isplitl [Hoy]; · iexists fo; iexact Hoy
    isplitl [tX]; · iexact tX
    isplitl [tY]; · iexact tY
    isplitl [aB]; · iexact aB
    iexact cB

/-- What is read at the end. -/
def result (c : Dev nD) : sProp 𝕄 := iprop(semVal (barCell c) 0 ∗ ((c : Thread nD τ).loc main_v1) ↦{fullShare} oF m c)

theorem leave (c : Dev nD) :
    (dats m 0 c).Φ (Fin.last cfg0.N) ⊢ iprop(result m c ∗ Pipeline.ownSems0 osem c ∗ Pipeline.scopedRest cfg0.spec c) := by
  rw [show (dats m 0 c).Φ (Fin.last cfg0.N) = Φ₁ m c from rfl, scopedRest0_eq]
  unfold Φ₁ result Pipeline.ownSems0
  rw [S7_all, six]
  iintro ⟨⟨⟨z0, Hv⟩, ⟨z1, Ho, HpR⟩, ⟨z2, Hs⟩, ⟨z3, Hr⟩, ⟨z4, HpL⟩, ⟨z5, Hoy⟩⟩, zB⟩
  isplitl [zB Ho Hoy]
  · isplitl [zB]; · iexact zB
    rw [o_whole]; isplitl [Ho] <;> iassumption
  isplitl [z0 z1 z2 z3 z4 z5]
  · isplitl [z0]; · iexact z0
    isplitl [z1]; · iexact z1
    isplitl [z2]; · iexact z2
    isplitl [z3]; · iexact z3
    isplitl [z4]; · iexact z4
    iexact z5
  isplitl [Hv]; · iexists (vF m c); rw [v_whole]; iexact Hv
  isplitl [Hs]; · iexists (sF m c); rw [s_whole]; iexact Hs
  isplitl [Hr]; · iexists (sF m (xp c)); rw [r_whole]; iexact Hr
  iexists (pF m c); rw [p_whole]
  iapply (p_join (F := F) c (pF m c))
  isplitl [HpL] <;> iassumption

theorem begin_run (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ aside m c) := by
  rw [Pipeline.unscopedRestP_none, unscopedRest0_eq]
  iintro ⟨⟨Ha, Ho⟩, Hl, Hcr, -, HG⟩
  ihave Hc := (creds (F := F) c) $$ Hcr
  ihave Ha' := ((pointsTo_share (PosShare.mem_left_op_right fullShare)).1) $$ Ha
  rw [show m ((c : Thread nD τ).loc main_arg0) = xF m c from rfl]
  icases Ha' with ⟨HaL, HaR⟩
  ihave HaC := (a_half m c fullShare.left) $$ HaL
  imodintro
  unfold start aside
  isplitr [HaR]
  · isplitl [HG]; · iexact HG
    isplitl [Hl]; · iexact Hl
    isplitl [Hc]; · iexact Hc
    isplitl [HaC]; · iexact HaC
    iexists (m ((c : Thread nD τ).loc main_v1)); iexact Ho
  · iexact HaR

theorem own_sems : Pipeline.OwnSemFacts cfg0.spec osem := by decide
theorem unscoped_bar : ∀ sm : SemLoc sig, sm.isScoped .tc = false → sm = .reg barS := by decide

set_option maxRecDepth 8000 in
/-- From any memory with zero counters, every fair execution of the four devices ends, with the argument unchanged, the
    result at `oF`, and every counter at zero. -/
theorem run_main : θ_run defs (onTc (τ := τ) (main (F := F))) (s₀ m ρ) (fun r =>
    (∀ c : Dev nD, r.2.mem ((c : Thread nD τ).loc main_arg0) = xF m c ∧ r.2.mem ((c : Thread nD τ).loc main_v1) = oF m c) ∧ r.2.sem = fun _ => 0) :=
  Pipeline.θ_run_region_owing_glob_pf (fun p => (cfgs p).toPCfg) (fun p => (cfgs p).toPCfg_adm) (dats m) () cellOf_inj (0 : Fin 1)
    winFacts0.to₀ own_sems (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := fun c => Pipeline.cellsWaits_intro cfgs (dats m) () 0 c fun w => w.elim0)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => w.elim0) (hpf := fun _ k => k.elim0)
    (X := start m) (Y := result m) (Z := aside m)
    (hX := begin_run m ρ) (hin := enter m) (hout := leave m)
    (QY := fun c s => s.sem (barCell c) = 0 ∧ s.mem ((c : Thread nD τ).loc main_arg0) = xF m c ∧ s.mem ((c : Thread nD τ).loc main_v1) = oF m c)
    (hY := fun c s' => by
      unfold result aside
      iintro ⟨⟨Hb, Ho⟩, Ha, HSI⟩
      icombine HSI Hb gives %hb
      icombine HSI Ho gives %ho
      icombine HSI Ha gives %ha
      imodintro
      isplitr
      · ipureintro
        exact ⟨by simpa using hb, Buf.eq_of_forall_mem_univ ha, Buf.eq_of_forall_mem_univ ho⟩
      iexact HSI)
    (hQ := fun _ h hs => ⟨fun c => (h c).2.2.2, sem_eq_zero hs fun c sm hsm => by
      obtain rfl := unscoped_bar sm hsm
      exact (h c).2.2.1⟩)

end Cert.KernelIdealProof
-- ==== Proof.Value.lean ====
/-
# The sum, in exact arithmetic

Read over the extended reals, where a change of format changes nothing, each device's result is the sum over the two
blocks of the first dimension, at that device's half of the columns: which is what the reference computes.
-/
module

public import proofs.«01_k».proof.Proof.KernelIdealRun
public import proofs.«01_k».proof.Proof.Gen.ReferenceIdeal.Run
public import Idealize.ShloMosaic.Lib.Layout
public import Idealize.ShloMosaic.Lib.Pointwise.Reduce
public import Idealize.ShloMosaic.PureOps.Ideal.Laws

@[expose] public section

noncomputable section

namespace Cert.KernelIdealProof

open Cert.KernelIdeal Cert.KernelIdeal.Gen

open Idealize.ShloMosaic
open Idealize.ShloMosaic.TcCoe
open Idealize.ShloMosaic.Layout (meshBlock meshLin blockN)

/-- The whole argument, -/
abbrev Whole := (⟨3, ![2, 512, 1024]⟩ : Shape).Idx → EReal

/-- and what the reference leaves of it. -/
def refOut (A : Whole) : Cert.ReferenceIdeal.S512x1024.Idx → EReal :=
  truncf (F := Ideal) .bf16 (Host.reduceAdd (F := Ideal) (φ := .f32) A (constant Cert.ReferenceIdeal.S_ .f32 0x00000000#32)
    Cert.ReferenceIdeal.Gen.reducesTo_S2x512x1024_S512x1024_d0 Cert.ReferenceIdeal.Gen.h_S_) Cert.ReferenceIdeal.Gen.bitsLt_bf16_f32

/-- The two blocks' sum, entry by entry. -/
theorem refOut_at (A : Whole) (i : Cert.ReferenceIdeal.S512x1024.Idx) :
    refOut A i = A (ix3 0 (i 0) (i 1)) + A (ix3 1 (i 0) (i 1)) := by
  show Ideal.hostReduceAdd Cert.ReferenceIdeal.Gen.reducesTo_S2x512x1024_S512x1024_d0 A (Ideal.ofBits .f32 0x00000000#32) i = _
  rw [Ideal.hostReduceAdd_r3_a0, Ideal.ofBits_zero_f32, zero_add, Fin.sum_univ_two]
  rfl

theorem lin_row : ∀ c : Fin 4, meshLin [2, 2] c.val [0] = c.val / 2 := by decide

variable (m : (ℓ : Loc nD τ sig) → Buf (Elt Ideal) ℓ) (A : Whole)

/-- Every device starts with its block of the whole. -/
abbrev Dealt : Prop := ∀ c : Dev nD, m ((c.tc : Thread nD τ).loc main_arg0)
  = blockN ⟨3, ![1, 512, 1024]⟩ ⟨3, ![2, 512, 1024]⟩ (meshBlock [2, 2] ![[0], [], []] c) A

theorem xF_at (h : Dealt m A) (c : Dev nD) (b : Fin 2) (hb : b.val = c.val / 2) (r : Fin 512) (l : Fin 1024) :
    xF (F := Ideal) m c (ix3 0 r l) = A (ix3 b r l) := by
  unfold xF
  rw [h c]
  show A _ = _
  refine congrArg A (funext fun a => Fin.ext ?_)
  fin_cases a
  · show meshLin [2, 2] c.val [0] * 1 + 0 = b.val
    rw [lin_row c]; omega
  · show 0 * 512 + r.val = r.val
    omega
  · show 0 * 1024 + l.val = l.val
    omega

/-- Half `e` of the columns of the rows device `c` fetched, in terms of the whole. -/
theorem hF_at (h : Dealt m A) (c : Dev nD) (e : ℕ) (he : e < 2) (b : Fin 2) (hb : b.val = c.val / 2) (i : S256x512.Idx) (r : Fin 512) (l : Fin 1024)
    (hr : r.val = 256 * (c.val % 2) + (i 0).val) (hl : l.val = 512 * e + (i 1).val) : hF (F := Ideal) m e he c i = A (ix3 b r l) := by
  rw [← xF_at m A h c b hb r l]
  unfold hF vF
  refine congrArg (xF (F := Ideal) m c) (funext fun a => Fin.ext ?_)
  fin_cases a
  · rfl
  · exact hr.symm
  · exact hl.symm

/-- What a device sums: its own block's entry and its `x` peer's. -/
theorem pF_at (c : Dev nD) (i : S256x512.Idx) : (pF (F := Ideal) m c i : EReal)
    = (hF (F := Ideal) m (c.val / 2) (x_lt c) c i : EReal) + (hF (F := Ideal) m (1 - (xp c).val / 2) (x_lt' (xp c)) (xp c) i : EReal) := rfl

theorem pF_sum (h : Dealt m A) (c : Dev nD) (i : S256x512.Idx) (r : Fin 512) (l : Fin 1024)
    (hr : r.val = 256 * (c.val % 2) + (i 0).val) (hl : l.val = 512 * (c.val / 2) + (i 1).val) :
    (pF (F := Ideal) m c i : EReal) = A (ix3 0 r l) + A (ix3 1 r l) := by
  have hx := xp_div c
  have hm := xp_mod c
  have hc := x_lt c
  rw [pF_at]
  by_cases h0 : c.val / 2 = 0
  · rw [hF_at m A h c _ _ 0 (by simpa using h0.symm) i r l hr hl,
      hF_at m A h (xp c) _ _ 1 (by rw [hx, h0]; rfl) i r l (by rw [hm]; exact hr) (by rw [hx, hl]; omega)]
  · have h1 : c.val / 2 = 1 := by omega
    rw [hF_at m A h c _ _ 1 (by rw [h1]; rfl) i r l hr hl,
      hF_at m A h (xp c) _ _ 0 (by rw [hx, h1]; rfl) i r l (by rw [hm]; exact hr) (by rw [hx, hl]; omega)]
    exact add_comm _ _

/-- Each device's result is its half of the columns of the reference's. -/
theorem oF_eq (h : Dealt m A) (c : Dev nD) :
    oF (F := Ideal) m c = blockN ⟨2, ![512, 512]⟩ ⟨2, ![512, 1024]⟩ (meshBlock [2, 2] ![[], [0]] c) (refOut A) := by
  funext i
  show _ = refOut A _
  rw [refOut_at]
  have hi : (i 0).val < 512 := (i 0).isLt
  have hj : (i 1).val < 512 := (i 1).isLt
  have hc := x_lt c
  have hd : (if (i 0).val / 256 = c.val % 2 then c else yp c).val / 2 = c.val / 2
      ∧ (if (i 0).val / 256 = c.val % 2 then c else yp c).val % 2 = (i 0).val / 256 := by
    split
    · exact ⟨rfl, Eq.symm ‹_›⟩
    · exact ⟨yp_div c, by rw [yp_mod]; omega⟩
  unfold oF
  refine (pF_sum m A h _ _ ⟨(i 0).val, hi⟩ ⟨512 * (c.val / 2) + (i 1).val, by omega⟩ ?_ ?_).trans ?_
  · rw [hd.2]; show (i 0).val = 256 * ((i 0).val / 256) + (i 0).val % 256; omega
  · rw [hd.1]
  · have e : ∀ b : Fin 2, (ix3 b ⟨(i 0).val, hi⟩ ⟨512 * (c.val / 2) + (i 1).val, by omega⟩ : (⟨3, ![2, 512, 1024]⟩ : Shape).Idx)
        = ix3 b ⟨0 * 512 + (i 0).val, by omega⟩ ⟨meshLin [2, 2] c.val [0] * 512 + (i 1).val, by rw [lin_row c]; omega⟩ := by
      intro b
      funext a
      apply Fin.ext
      fin_cases a
      · rfl
      · show (i 0).val = 0 * 512 + (i 0).val; omega
      · show 512 * (c.val / 2) + (i 1).val = meshLin [2, 2] c.val [0] * 512 + (i 1).val
        rw [lin_row c]; omega
    rw [e 0, e 1]
    rfl

end Cert.KernelIdealProof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.Value
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The kernel as compiled ends, with its argument unchanged and its counters at zero. -/
theorem kernel_ends : Cert.quiescent_Kernel := fun m ρ _ =>
  (θ_run Cert.Kernel.defs _ _).mono (fun _ h => ⟨fun c => (h.1 c).1, h.2⟩) (Cert.KernelProof.run_main (F := Bits) m ρ)

/-- So does the kernel in exact arithmetic, -/
theorem ideal_ends : Cert.quiescent_KernelIdeal := fun m ρ _ =>
  (θ_run Cert.KernelIdeal.defs _ _).mono (fun _ h => ⟨fun c => (h.1 c).1, h.2⟩) (Cert.KernelIdealProof.run_main (F := Ideal) m ρ)

/-- and the reference, which has no counters. -/
theorem reference_ends : Cert.quiescent_ReferenceIdeal := fun m ρ _ =>
  (θ_run Cert.ReferenceIdeal.defs _ _).mono (fun r h => ⟨fun c => (h c).2, sem_eq_zero_of_no_sems rfl r.2⟩) (Cert.ReferenceIdeal.Value.run (F := Ideal) m ρ)

/-- Both leave the same sum, device `c` its half of the columns. -/
theorem same_sum : Cert.algebraic_KernelIdeal_ReferenceIdeal := fun m ρ m' ρ' _ h =>
  ⟨Cert.KernelIdealProof.refOut (m' (((0 : Dev Cert.ReferenceIdeal.nD).tc : Thread Cert.ReferenceIdeal.nD Cert.ReferenceIdeal.τ).loc Cert.ReferenceIdeal.main_arg0)),
    (θ_run Cert.KernelIdeal.defs _ _).mono (fun _ hr c => ⟨(hr.1 c).2.trans (Cert.KernelIdealProof.oF_eq m _ h c), (hr.1 c).1⟩)
      (Cert.KernelIdealProof.run_main (F := Ideal) m ρ),
    (θ_run Cert.ReferenceIdeal.defs _ _).mono (fun _ hr => hr 0) (Cert.ReferenceIdeal.Value.run (F := Ideal) m' ρ')⟩

theorem claim : Cert.Claim := ⟨Cert.Kernel.Gen.facts, Cert.KernelIdeal.Gen.facts, Cert.ReferenceIdeal.Gen.facts,
  kernel_ends, ideal_ends, reference_ends, trivial, same_sum⟩

end Cert.Proof

end
